-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S10000x128 : Shape := ⟨2, ![10000, 128]⟩
abbrev S10000x10000 : Shape := ⟨2, ![10000, 10000]⟩
abbrev S128x16 : Shape := ⟨2, ![128, 16]⟩
abbrev S16 : Shape := ⟨1, ![16]⟩
abbrev S16x128 : Shape := ⟨2, ![16, 128]⟩
abbrev S128 : Shape := ⟨1, ![128]⟩
abbrev S1x16 : Shape := ⟨2, ![1, 16]⟩
abbrev S400x10000 : Shape := ⟨2, ![400, 10000]⟩
abbrev S400x128 : Shape := ⟨2, ![400, 128]⟩
abbrev S10000x16 : Shape := ⟨2, ![10000, 16]⟩
abbrev S400x16 : Shape := ⟨2, ![400, 16]⟩
abbrev S1x128 : Shape := ⟨2, ![1, 128]⟩
abbrev S2000x10000 : Shape := ⟨2, ![2000, 10000]⟩
abbrev S2000x128 : Shape := ⟨2, ![2000, 128]⟩
abbrev S2000 : Shape := ⟨1, ![2000]⟩
abbrev S2000x1 : Shape := ⟨2, ![2000, 1]⟩

abbrev nBuf : Space → Nat
  | .hbm => 11
  | .vmem => 17
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x16, .f32⟩
  | .hbm, ⟨3, _⟩ => ⟨S16, .f32⟩
  | .hbm, ⟨4, _⟩ => ⟨S16x128, .f32⟩
  | .hbm, ⟨5, _⟩ => ⟨S128, .f32⟩
  | .hbm, ⟨6, _⟩ => ⟨S1x16, .f32⟩
  | .hbm, ⟨7, _⟩ => ⟨S10000x128, .fp8e4m3⟩
  | .hbm, ⟨8, _⟩ => ⟨S10000x10000, .fp8e4m3⟩
  | .hbm, ⟨9, _⟩ => ⟨S1x128, .f32⟩
  | .hbm, ⟨10, _⟩ => ⟨S10000x128, .f32⟩
  | .local _ .vmem, ⟨0, _⟩ => ⟨S10000x128, .f32⟩
  | .local _ .vmem, ⟨1, _⟩ => ⟨S400x10000, .f32⟩
  | .local _ .vmem, ⟨2, _⟩ => ⟨S400x10000, .f32⟩
  | .local _ .vmem, ⟨3, _⟩ => ⟨S128x16, .f32⟩
  | .local _ .vmem, ⟨4, _⟩ => ⟨S1x16, .f32⟩
  | .local _ .vmem, ⟨5, _⟩ => ⟨S16x128, .f32⟩
  | .local _ .vmem, ⟨6, _⟩ => ⟨S400x128, .fp8e4m3⟩
  | .local _ .vmem, ⟨7, _⟩ => ⟨S400x128, .fp8e4m3⟩
  | .local _ .vmem, ⟨8, _⟩ => ⟨S400x10000, .fp8e4m3⟩
  | .local _ .vmem, ⟨9, _⟩ => ⟨S400x10000, .fp8e4m3⟩
  | .local _ .vmem, ⟨10, _⟩ => ⟨S10000x16, .fp8e4m3⟩
  | .local _ .vmem, ⟨11, _⟩ => ⟨S2000x10000, .fp8e4m3⟩
  | .local _ .vmem, ⟨12, _⟩ => ⟨S2000x10000, .fp8e4m3⟩
  | .local _ .vmem, ⟨13, _⟩ => ⟨S10000x128, .fp8e4m3⟩
  | .local _ .vmem, ⟨14, _⟩ => ⟨S1x128, .f32⟩
  | .local _ .vmem, ⟨15, _⟩ => ⟨S2000x128, .f32⟩
  | .local _ .vmem, ⟨16, _⟩ => ⟨S2000x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev main_v2 : Ref sig .tc := ⟨.hbm, 9, rfl⟩
abbrev main_v3 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg3_1 : Ref sig .tc := ⟨.vmem, 16, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem3_1 : DmaSem sig := 15

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S400x10000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S400x128 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S400x10000 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x10000 .fp8e4m3 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x128 .fp8e4m3 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]
-- ==== ReferenceIdeal.lean ====
abbrev S10000x128 : Shape := ⟨2, ![10000, 128]⟩
abbrev S10000x10000 : Shape := ⟨2, ![10000, 10000]⟩
abbrev S128x16 : Shape := ⟨2, ![128, 16]⟩
abbrev S16 : Shape := ⟨1, ![16]⟩
abbrev S16x128 : Shape := ⟨2, ![16, 128]⟩
abbrev S128 : Shape := ⟨1, ![128]⟩
abbrev S10000x16 : Shape := ⟨2, ![10000, 16]⟩
abbrev S1x16 : Shape := ⟨2, ![1, 16]⟩
abbrev S_ : Shape := ⟨0, ![]⟩
abbrev S1x128 : Shape := ⟨2, ![1, 128]⟩
abbrev S10000 : Shape := ⟨1, ![10000]⟩
abbrev S10000x1 : Shape := ⟨2, ![10000, 1]⟩

abbrev nBuf : Space → Nat
  | .hbm => 34
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x16, .f32⟩
  | .hbm, ⟨3, _⟩ => ⟨S16, .f32⟩
  | .hbm, ⟨4, _⟩ => ⟨S16x128, .f32⟩
  | .hbm, ⟨5, _⟩ => ⟨S128, .f32⟩
  | .hbm, ⟨6, _⟩ => ⟨S10000x16, .f32⟩
  | .hbm, ⟨7, _⟩ => ⟨S10000x16, .f32⟩
  | .hbm, ⟨8, _⟩ => ⟨S1x16, .f32⟩
  | .hbm, ⟨9, _⟩ => ⟨S10000x16, .f32⟩
  | .hbm, ⟨10, _⟩ => ⟨S10000x16, .f32⟩
  | .hbm, ⟨11, _⟩ => ⟨S_, .f32⟩
  | .hbm, ⟨12, _⟩ => ⟨S10000x16, .f32⟩
  | .hbm, ⟨13, _⟩ => ⟨S10000x16, .f32⟩
  | .hbm, ⟨14, _⟩ => ⟨S10000x128, .f32⟩
  | .hbm, ⟨15, _⟩ => ⟨S10000x128, .f32⟩
  | .hbm, ⟨16, _⟩ => ⟨S1x128, .f32⟩
  | .hbm, ⟨17, _⟩ => ⟨S10000x128, .f32⟩
  | .hbm, ⟨18, _⟩ => ⟨S10000x128, .f32⟩
  | .hbm, ⟨19, _⟩ => ⟨S_, .f32⟩
  | .hbm, ⟨20, _⟩ => ⟨S10000, .f32⟩
  | .hbm, ⟨21, _⟩ => ⟨S_, .f32⟩
  | .hbm, ⟨22, _⟩ => ⟨S10000, .f32⟩
  | .hbm, ⟨23, _⟩ => ⟨S10000, .f32⟩
  | .hbm, ⟨24, _⟩ => ⟨S10000x1, .f32⟩
  | .hbm, ⟨25, _⟩ => ⟨S10000x128, .f32⟩
  | .hbm, ⟨26, _⟩ => ⟨S10000x128, .f32⟩
  | .hbm, ⟨27, _⟩ => ⟨S10000x128, .f32⟩
  | .hbm, ⟨28, _⟩ => ⟨S_, .f32⟩
  | .hbm, ⟨29, _⟩ => ⟨S10000, .f32⟩
  | .hbm, ⟨30, _⟩ => ⟨S10000x1, .f32⟩
  | .hbm, ⟨31, _⟩ => ⟨S10000x1, .f32⟩
  | .hbm, ⟨32, _⟩ => ⟨S10000x128, .f32⟩
  | .hbm, ⟨33, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_call0_cst : Ref sig .tc := ⟨.hbm, 19, rfl⟩
abbrev main_call0_v0 : Ref sig .tc := ⟨.hbm, 20, rfl⟩
abbrev main_call0_cst_0 : Ref sig .tc := ⟨.hbm, 21, rfl⟩
abbrev main_call0_v1 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_v5 : Ref sig .tc := ⟨.hbm, 26, rfl⟩
abbrev main_call0_v6 : Ref sig .tc := ⟨.hbm, 27, rfl⟩
abbrev main_call0_cst_1 : Ref sig .tc := ⟨.hbm, 28, rfl⟩
abbrev main_call0_v7 : Ref sig .tc := ⟨.hbm, 29, rfl⟩
abbrev main_call0_v8 : Ref sig .tc := ⟨.hbm, 30, rfl⟩
abbrev main_call0_v9 : Ref sig .tc := ⟨.hbm, 31, rfl⟩
abbrev main_call0_v10 : Ref sig .tc := ⟨.hbm, 32, rfl⟩
abbrev main_v12 : Ref sig .tc := ⟨.hbm, 33, rfl⟩

abbrev nD : Nat := 1
abbrev τ : Topo := Topo.v7x

variable {F : FTy → Type} [FloatOps F]
-- ==== Proof.Buffers.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.Value
public import Idealize.ShloMosaic.Lib.Tactic

@[expose] public section

noncomputable section

namespace Cert.Gcn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The all-zero offset of a two-dimensional access. -/
theorem zero_off2 : (![0, 0] : Fin 2 → Nat) = fun _ => 0 := funext fun a => by fin_cases a <;> rfl

/-- A buffer held at contents that read as `X` is held at some contents that read as `X`. -/
theorem reads_of_read (c : Dev nD) {sp : Space} {S : Shape} {e : EltTy} (m : Memref sig .tc sp S e)
    (f : m.view.ty.Contents (Elt F)) (X : S.Idx → Elt F e) (h : m.view.read (Elt F) f = X) :
    (m.view.loc (c : Thread nD τ) ↦[m.view.set]{fullShare} f) ⊢ (iprop(∃ g, ⌜m.view.read (Elt F) g = X⌝
      ∗ (m.view.loc (c : Thread nD τ) ↦[m.view.set]{fullShare} g)) : sProp 𝕄) := by
  iintro H
  iexists f
  isplitr
  · ipureintro; exact h
  · iexact H

/-- After one store over the whole shape a buffer reads as what was stored. -/
theorem read_whole_store {κ : Kind} {sp : Space} {S : Shape} {e : EltTy} (v : View sig κ sp S e) (f : v.ty.Contents (Elt F))
    {off : Fin S.rank → Nat} (h : off = fun _ => 0) (inb : ∀ a, off a + S.size a ≤ S.size a) (w : S.Idx → Elt F e) :
    v.read (Elt F) (v.writes (Elt F) f [⟨Rect.unit off S.size inb, w⟩]) = w := by
  rw [View.read_writes_eq_canon _ _ _ fun x => ⟨_, List.mem_singleton_self _, View.mem_set_unit_zero h inb x⟩, View.canon_unit_zero h]

/-- A load over the whole shape reads the buffer's contents. -/
theorem readAt_whole {κ : Kind} {sp : Space} {S : Shape} {e : EltTy} (v : View sig κ sp S e) (f : v.ty.Contents (Elt F))
    {off : Fin S.rank → Nat} (h : off = fun _ => 0) (inb : ∀ a, off a + S.size a ≤ S.size a) :
    v.readAt (Elt F) (Rect.unit off S.size inb).toLoadRect f = v.read (Elt F) f := View.ld_unit_zero h inb _

end Cert.Gcn

end
-- ==== Proof.Pass1Body.lean ====
module

public import proofs.«01_k».proof.Proof.Buffers

@[expose] public section

noncomputable section

namespace Cert.Gcn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The condition under which the first pass's body projects the features: the word it tests is one exactly at grid point 0. -/
abbrev firstPoint (i : grid0.Coords) : Prop :=
  Scalar.cmpi .ne (Scalar.extui (Scalar.cmpi .eq (BitVec.ofNat 32 (i 0).val) 0#32) : BitVec 32) 0#32 = 1#1

/-- The first pass's body where it projects: from the features `x`, a row block `a` of the matrix, the weights and the bias row in
    its input buffers, it leaves the projection in the scratch buffer, the hidden block in the first output's buffer and the
    quantised row block in the second's. -/
theorem pass1_body_first (c : Dev nD) (i : grid0.Coords) (hi : firstPoint i)
    (a1 : Memref sig .tc .vmem S10000x128 .f32) (h1 : a1.IsWhole) (a2 : Memref sig .tc .vmem S400x10000 .f32) (h2 : a2.IsWhole)
    (a3 : Memref sig .tc .vmem S128x16 .f32) (h3 : a3.IsWhole) (a4 : Memref sig .tc .vmem S1x16 .f32) (h4 : a4.IsWhole)
    (a5 : Memref sig .tc .vmem S16x128 .f32) (h5 : a5.IsWhole) (a6 : Memref sig .tc .vmem S400x128 .fp8e4m3) (h6 : a6.IsWhole)
    (a7 : Memref sig .tc .vmem S400x10000 .fp8e4m3) (h7 : a7.IsWhole) (a8 : Memref sig .tc .vmem S10000x16 .fp8e4m3) (h8 : a8.IsWhole)
    (x : Vec F S10000x128 .f32) (a : Vec F S400x10000 .f32) (w : Vec F S128x16 .f32) (b : Vec F S1x16 .f32) (w' : Vec F S16x128 .f32)
    (K : PUnit → sProp 𝕄) :
    iprop(owns (c : Thread nD τ) a1 fullShare x ∗ owns (c : Thread nD τ) a2 fullShare a ∗ owns (c : Thread nD τ) a3 fullShare w
        ∗ owns (c : Thread nD τ) a4 fullShare b ∗ owns (c : Thread nD τ) a5 fullShare w'
        ∗ (∃ d, owns (c : Thread nD τ) a6 fullShare d) ∗ (∃ d, owns (c : Thread nD τ) a7 fullShare d) ∗ (∃ d, owns (c : Thread nD τ) a8 fullShare d)
        ∗ (iprop(owns (c : Thread nD τ) a1 fullShare x ∗ owns (c : Thread nD τ) a2 fullShare a ∗ owns (c : Thread nD τ) a3 fullShare w
            ∗ owns (c : Thread nD τ) a4 fullShare b ∗ owns (c : Thread nD τ) a5 fullShare w'
            ∗ owns (c : Thread nD τ) a6 fullShare (k0_pay3 a (k0_pay1 x w) b w') ∗ owns (c : Thread nD τ) a7 fullShare (k0_pay2 a)
            ∗ owns (c : Thread nD τ) a8 fullShare (k0_pay1 x w)) -∗ K ⟨⟩))
      ⊢ wp frame (wpE (defs₀ (F := F)) Variants.none c none) Set.univ (cc0__pass1_body i a1 h1 a2 h2 a3 h3 a4 h4 a5 h5 a6 h6 a7 h7 a8 h8) K := by
  simp only [cc0__pass1_body_eq_skeleton]; unfold cc0__pass1_body_skel
  unfold owns
  iintro ⟨⟨%f1, %e1, H1⟩, ⟨%f2, %e2, H2⟩, ⟨%f3, %e3, H3⟩, ⟨%f4, %e4, H4⟩, ⟨%f5, %e5, H5⟩, ⟨%d6, %f6, -, H6⟩, ⟨%d7, %f7, -, H7⟩, ⟨%d8, %f8, -, H8⟩, Hk⟩
  sl_exec (disch := exact hi)
  sl_step
  iapply Hk
  have stored : pass1_body_first.sl.v5 c a1 a3 a8 f1 f3 = k0_pay1 x w := by
    unfold pass1_body_first.sl.v5 pass1_body_first.sl.H8_1
    rw [View.readCov_unit_zero a8.view zero_off2, readAt_whole a1.view f1 zero_off2, readAt_whole a3.view f3 zero_off2, e1, e3]
  have pieces : pass1_body_first.sl.H8_1 c a1 a3 f1 f3
      = [⟨Rect.unit ![0, 0] S10000x16.size inb_S10000x16_S10000x16_0_0, k0_pay1 x w⟩] := by
    unfold pass1_body_first.sl.H8_1
    rw [readAt_whole a1.view f1 zero_off2, readAt_whole a3.view f3 zero_off2, e1, e3]
  rw [stored, pieces, readAt_whole a2.view f2 zero_off2, readAt_whole a4.view f4 zero_off2, readAt_whole a5.view f5 zero_off2, e2, e4, e5]
  isplitl [H1]; · iapply reads_of_read c a1 f1 x e1; iexact H1
  isplitl [H2]; · iapply reads_of_read c a2 f2 a e2; iexact H2
  isplitl [H3]; · iapply reads_of_read c a3 f3 w e3; iexact H3
  isplitl [H4]; · iapply reads_of_read c a4 f4 b e4; iexact H4
  isplitl [H5]; · iapply reads_of_read c a5 f5 w' e5; iexact H5
  isplitl [H6]; · iapply reads_of_read c a6 _ _ (read_whole_store a6.view f6 zero_off2 inb_S400x128_S400x128_0_0 _); iexact H6
  isplitl [H7]; · iapply reads_of_read c a7 _ _ (read_whole_store a7.view f7 zero_off2 inb_S400x10000_S400x10000_0_0 _); iexact H7
  iapply reads_of_read c a8 _ _ (read_whole_store a8.view f8 zero_off2 inb_S10000x16_S10000x16_0_0 _); iexact H8

/-- The first pass's body at every other point: it reads the projection `y` from the scratch buffer and leaves it there. -/
theorem pass1_body_later (c : Dev nD) (i : grid0.Coords) (hi : ¬ firstPoint i)
    (a1 : Memref sig .tc .vmem S10000x128 .f32) (h1 : a1.IsWhole) (a2 : Memref sig .tc .vmem S400x10000 .f32) (h2 : a2.IsWhole)
    (a3 : Memref sig .tc .vmem S128x16 .f32) (h3 : a3.IsWhole) (a4 : Memref sig .tc .vmem S1x16 .f32) (h4 : a4.IsWhole)
    (a5 : Memref sig .tc .vmem S16x128 .f32) (h5 : a5.IsWhole) (a6 : Memref sig .tc .vmem S400x128 .fp8e4m3) (h6 : a6.IsWhole)
    (a7 : Memref sig .tc .vmem S400x10000 .fp8e4m3) (h7 : a7.IsWhole) (a8 : Memref sig .tc .vmem S10000x16 .fp8e4m3) (h8 : a8.IsWhole)
    (x : Vec F S10000x128 .f32) (a : Vec F S400x10000 .f32) (w : Vec F S128x16 .f32) (b : Vec F S1x16 .f32) (w' : Vec F S16x128 .f32)
    (y : Vec F S10000x16 .fp8e4m3) (K : PUnit → sProp 𝕄) :
    iprop(owns (c : Thread nD τ) a1 fullShare x ∗ owns (c : Thread nD τ) a2 fullShare a ∗ owns (c : Thread nD τ) a3 fullShare w
        ∗ owns (c : Thread nD τ) a4 fullShare b ∗ owns (c : Thread nD τ) a5 fullShare w'
        ∗ (∃ d, owns (c : Thread nD τ) a6 fullShare d) ∗ (∃ d, owns (c : Thread nD τ) a7 fullShare d) ∗ owns (c : Thread nD τ) a8 fullShare y
        ∗ (iprop(owns (c : Thread nD τ) a1 fullShare x ∗ owns (c : Thread nD τ) a2 fullShare a ∗ owns (c : Thread nD τ) a3 fullShare w
            ∗ owns (c : Thread nD τ) a4 fullShare b ∗ owns (c : Thread nD τ) a5 fullShare w'
            ∗ owns (c : Thread nD τ) a6 fullShare (k0_pay3 a y b w') ∗ owns (c : Thread nD τ) a7 fullShare (k0_pay2 a)
            ∗ owns (c : Thread nD τ) a8 fullShare y) -∗ K ⟨⟩))
      ⊢ wp frame (wpE (defs₀ (F := F)) Variants.none c none) Set.univ (cc0__pass1_body i a1 h1 a2 h2 a3 h3 a4 h4 a5 h5 a6 h6 a7 h7 a8 h8) K := by
  simp only [cc0__pass1_body_eq_skeleton]; unfold cc0__pass1_body_skel
  unfold owns
  iintro ⟨⟨%f1, %e1, H1⟩, ⟨%f2, %e2, H2⟩, ⟨%f3, %e3, H3⟩, ⟨%f4, %e4, H4⟩, ⟨%f5, %e5, H5⟩, ⟨%d6, %f6, -, H6⟩, ⟨%d7, %f7, -, H7⟩, ⟨%f8, %e8, H8⟩, Hk⟩
  sl_exec (disch := exact hi)
  sl_step
  iapply Hk
  rw [readAt_whole a2.view f2 zero_off2, readAt_whole a4.view f4 zero_off2, readAt_whole a5.view f5 zero_off2,
    readAt_whole a8.view f8 zero_off2, e2, e4, e5, e8]
  isplitl [H1]; · iapply reads_of_read c a1 f1 x e1; iexact H1
  isplitl [H2]; · iapply reads_of_read c a2 f2 a e2; iexact H2
  isplitl [H3]; · iapply reads_of_read c a3 f3 w e3; iexact H3
  isplitl [H4]; · iapply reads_of_read c a4 f4 b e4; iexact H4
  isplitl [H5]; · iapply reads_of_read c a5 f5 w' e5; iexact H5
  isplitl [H6]; · iapply reads_of_read c a6 _ _ (read_whole_store a6.view f6 zero_off2 inb_S400x128_S400x128_0_0 _); iexact H6
  isplitl [H7]; · iapply reads_of_read c a7 _ _ (read_whole_store a7.view f7 zero_off2 inb_S400x10000_S400x10000_0_0 _); iexact H7
  iapply reads_of_read c a8 f8 y e8; iexact H8

end Cert.Gcn

end
-- ==== Proof.Pass1Data.lean ====
module

public import proofs.«01_k».proof.Proof.Pass1Body

@[expose] public section

noncomputable section

namespace Cert.Gcn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (UR sig nD τ) ℕ

variable (V : Dev nD → Valuation τ sig (Elt F)) (c : Dev nD)

/-- The whole of the features, as the first pass reads them at point `t`. -/
def xBlock (t : Fin cfg0.N) : Vec F S10000x128 .f32 := ((cfg0.win 0).blk t).view.read (Elt F) (V c main_arg0)

/-- The block of 400 rows of the matrix that the first pass reads at point `t`. -/
def aBlock (t : Fin cfg0.N) : Vec F S400x10000 .f32 := ((cfg0.win 1).blk t).view.read (Elt F) (V c main_arg1)

/-- The first weights, as the first pass reads them at point `t`. -/
def wBlock1 (t : Fin cfg0.N) : Vec F S128x16 .f32 := ((cfg0.win 2).blk t).view.read (Elt F) (V c main_arg2)

/-- The first bias row, as the first pass reads it at point `t`. -/
def biasBlock1 (t : Fin cfg0.N) : Vec F S1x16 .f32 := ((cfg0.win 3).blk t).view.read (Elt F) (V c main_v0)

/-- The second weights, as the first pass reads them at point `t`. -/
def wBlock2 (t : Fin cfg0.N) : Vec F S16x128 .f32 := ((cfg0.win 4).blk t).view.read (Elt F) (V c main_arg4)

/-- The first grid point of the first pass. -/
def first0 : Fin cfg0.N := ⟨0, by show 0 < grid0.N; rw [N_0]; decide⟩

/-- The projected features: what the first point leaves in the scratch buffer. -/
def projected : Vec F S10000x16 .fp8e4m3 := k0_pay1 (xBlock V c first0) (wBlock1 V c first0)

/-- The scratch buffer before point `n`: at anything before the first point, at the projected features afterwards. -/
def scratchAt : ℕ → sProp 𝕄
  | 0 => iprop(∃ d, owns (c : Thread nD τ) (Memref.whole cc0_scratch0) fullShare d)
  | _ + 1 => owns (c : Thread nD τ) (Memref.whole cc0_scratch0) fullShare (projected V c)

/-- After any point the scratch buffer is at the projected features. -/
theorem scratchAt_succ (n : ℕ) :
    (owns (c : Thread nD τ) (Memref.whole cc0_scratch0) fullShare (projected V c) : sProp 𝕄) ⊢ scratchAt V c (n + 1) := .rfl

/-- The scoped buffers of the second pass, each at anything: the first pass leaves them alone. -/
def otherScoped : sProp 𝕄 :=
  iprop((∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg3_0), ((c : Thread nD τ).loc cc1_stg3_0) ↦{fullShare} f)
    ∗ (∃ f : Buf (Elt F) ((c : Thread nD τ).loc cc1_stg3_1), ((c : Thread nD τ).loc cc1_stg3_1) ↦{fullShare} f))

/-- The first pass's proof data on core `c`, entered from the buffers `V c`: the inputs stay at their blocks, the two output blocks
    are the body's values of them and of the projected features, and the scratch buffer carries the projected features from the
    first point on. -/
def dat0 : Dat τ (Elt F) Unit ℕ (UR sig nD τ) ℕ cfg0 c where
  A w := V c (Pipeline.arrRef spec0 w)
  after w t := match w with
    | ⟨0, _⟩ => xBlock V c t
    | ⟨1, _⟩ => aBlock V c t
    | ⟨2, _⟩ => wBlock1 V c t
    | ⟨3, _⟩ => biasBlock1 V c t
    | ⟨4, _⟩ => wBlock2 V c t
    | ⟨5, _⟩ => k0_pay3 (aBlock V c t) (projected V c) (biasBlock1 V c t) (wBlock2 V c t)
    | ⟨6, _⟩ => k0_pay2 (aBlock V c t)
  Φ t := iprop(scratchAt V c t.val ∗ otherScoped c)
  q _ := fullShare
  owed _ := 0

/-- The body finds the features in its first window, -/
theorem before0_0 (t : Fin cfg0.N) (d) : (dat0 V c).before 0 t d = xBlock V c t :=
  (dat0 V c).before_in_eq_fetched 0 rfl (fun _ => rfl) (fun _ _ _ => rfl) (fun _ => rfl) t d
/-- the row block of the matrix in its second, -/
theorem before0_1 (t : Fin cfg0.N) (d) : (dat0 V c).before 1 t d = aBlock V c t :=
  (dat0 V c).before_in_eq_fetched 1 rfl (fun _ => rfl) (fun _ _ _ => rfl) (fun _ => rfl) t d
/-- the first weights in its third, -/
theorem before0_2 (t : Fin cfg0.N) (d) : (dat0 V c).before 2 t d = wBlock1 V c t :=
  (dat0 V c).before_in_eq_fetched 2 rfl (fun _ => rfl) (fun _ _ _ => rfl) (fun _ => rfl) t d
/-- the first bias row in its fourth, -/
theorem before0_3 (t : Fin cfg0.N) (d) : (dat0 V c).before 3 t d = biasBlock1 V c t :=
  (dat0 V c).before_in_eq_fetched 3 rfl (fun _ => rfl) (fun _ _ _ => rfl) (fun _ => rfl) t d
/-- and the second weights in its fifth. -/
theorem before0_4 (t : Fin cfg0.N) (d) : (dat0 V c).before 4 t d = wBlock2 V c t :=
  (dat0 V c).before_in_eq_fetched 4 rfl (fun _ => rfl) (fun _ _ _ => rfl) (fun _ => rfl) t d

theorem defs₀_pass1 (t : Fin cfg0.N) : (defs₀ (F := F)) .tc cfg0.body (cfg0.bodyArgs t (cfg0.slots t)) = bodyAt0 t := by
  unfold defs₀; rw [Defs.onTc_tc]

/-- The body projects at the first point only. -/
theorem firstPoint_iff : ∀ t : Fin cfg0.N, firstPoint (grid0.coords t) ↔ t.val = 0 := by
  show ∀ t : Fin grid0.N, _
  decide

/-- The first pass's body at point `t`: what it needs of the scratch buffer before `t`, it leaves for after `t`. -/
theorem pass1_body_at (t : Fin cfg0.N) (K : PUnit → sProp 𝕄) :
    iprop(scratchAt V c t.val ∗ owns (c : Thread nD τ) (st0_0 t) fullShare (xBlock V c t) ∗ owns (c : Thread nD τ) (st0_1 t) fullShare (aBlock V c t)
        ∗ owns (c : Thread nD τ) (st0_2 t) fullShare (wBlock1 V c t) ∗ owns (c : Thread nD τ) (st0_3 t) fullShare (biasBlock1 V c t)
        ∗ owns (c : Thread nD τ) (st0_4 t) fullShare (wBlock2 V c t)
        ∗ (∃ d, owns (c : Thread nD τ) (st0_5 t) fullShare d) ∗ (∃ d, owns (c : Thread nD τ) (st0_6 t) fullShare d)
        ∗ (iprop(scratchAt V c (t.val + 1) ∗ owns (c : Thread nD τ) (st0_0 t) fullShare (xBlock V c t) ∗ owns (c : Thread nD τ) (st0_1 t) fullShare (aBlock V c t)
            ∗ owns (c : Thread nD τ) (st0_2 t) fullShare (wBlock1 V c t) ∗ owns (c : Thread nD τ) (st0_3 t) fullShare (biasBlock1 V c t)
            ∗ owns (c : Thread nD τ) (st0_4 t) fullShare (wBlock2 V c t)
            ∗ owns (c : Thread nD τ) (st0_5 t) fullShare (k0_pay3 (aBlock V c t) (projected V c) (biasBlock1 V c t) (wBlock2 V c t))
            ∗ owns (c : Thread nD τ) (st0_6 t) fullShare (k0_pay2 (aBlock V c t))) -∗ K ⟨⟩))
      ⊢ wp frame (wpE (defs₀ (F := F)) Variants.none c none) Set.univ (bodyAt0 t) K := by
  rcases t with ⟨n, hn⟩
  rcases n with _ | n
  · show iprop((∃ d, owns (c : Thread nD τ) (Memref.whole cc0_scratch0) fullShare d) ∗ _) ⊢ _
    iintro ⟨HS, H0, H1, H2, H3, H4, H5, H6, Hk⟩
    iapply (pass1_body_first c (grid0.coords ⟨0, hn⟩) ((firstPoint_iff ⟨0, hn⟩).mpr rfl) (st0_0 ⟨0, hn⟩) _ (st0_1 ⟨0, hn⟩) _
      (st0_2 ⟨0, hn⟩) _ (st0_3 ⟨0, hn⟩) _ (st0_4 ⟨0, hn⟩) _ (st0_5 ⟨0, hn⟩) _ (st0_6 ⟨0, hn⟩) _ (Memref.whole cc0_scratch0) _
      (xBlock V c ⟨0, hn⟩) (aBlock V c ⟨0, hn⟩) (wBlock1 V c ⟨0, hn⟩) (biasBlock1 V c ⟨0, hn⟩) (wBlock2 V c ⟨0, hn⟩))
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS]; · iexact HS
    iintro ⟨H0, H1, H2, H3, H4, H5, H6, HS⟩
    iapply Hk
    isplitl [HS]; · iapply (scratchAt_succ V c _); iexact HS
    isplitl [H0]; · iexact H0
    isplitl [H1]; · iexact H1
    isplitl [H2]; · iexact H2
    isplitl [H3]; · iexact H3
    isplitl [H4]; · iexact H4
    isplitl [H5]; · iexact H5
    iexact H6
  · show iprop(owns (c : Thread nD τ) (Memref.whole cc0_scratch0) fullShare (projected V c) ∗ _) ⊢ _
    iintro ⟨HS, H0, H1, H2, H3, H4, H5, H6, Hk⟩
    iapply (pass1_body_later c (grid0.coords ⟨n + 1, hn⟩) (fun h => Nat.succ_ne_zero n ((firstPoint_iff ⟨n + 1, hn⟩).mp h))
      (st0_0 ⟨n + 1, hn⟩) _ (st0_1 ⟨n + 1, hn⟩) _
      (st0_2 ⟨n + 1, hn⟩) _ (st0_3 ⟨n + 1, hn⟩) _ (st0_4 ⟨n + 1, hn⟩) _ (st0_5 ⟨n + 1, hn⟩) _ (st0_6 ⟨n + 1, hn⟩) _ (Memref.whole cc0_scratch0) _
      (xBlock V c ⟨n + 1, hn⟩) (aBlock V c ⟨n + 1, hn⟩) (wBlock1 V c ⟨n + 1, hn⟩) (biasBlock1 V c ⟨n + 1, hn⟩) (wBlock2 V c ⟨n + 1, hn⟩)
      (projected V c))
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS]; · iexact HS
    iintro ⟨H0, H1, H2, H3, H4, H5, H6, HS⟩
    iapply Hk
    isplitl [HS]; · iapply (scratchAt_succ V c _); iexact HS
    isplitl [H0]; · iexact H0
    isplitl [H1]; · iexact H1
    isplitl [H2]; · iexact H2
    isplitl [H3]; · iexact H3
    isplitl [H4]; · iexact H4
    isplitl [H5]; · iexact H5
    iexact H6

/-- At every grid point the first pass's body does what its proof data say. -/
theorem obligation0 : BodyObligation (dat0 V c) (defs₀ (F := F)) Variants.none () Set.univ := fun t => by
  rw [defs₀_pass1, bigSep_W0, bigSep_W0, show (dat0 V c).Φ t.castSucc = iprop(scratchAt V c t.val ∗ otherScoped c) from rfl,
    show (dat0 V c).Φ t.succ = iprop(scratchAt V c (t.val + 1) ∗ otherScoped c) from rfl]
  iintro ⟨⟨HS, HP⟩, HO, ⟨%d0, H0⟩, ⟨%d1, H1⟩, ⟨%d2, H2⟩, ⟨%d3, H3⟩, ⟨%d4, H4⟩, ⟨%d5, H5⟩, ⟨%d6, H6⟩⟩
  rw [before0_0, before0_1, before0_2, before0_3, before0_4]
  iapply (pass1_body_at V c t)
  isplitl [HS]; · iexact HS
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨HS, H0, H1, H2, H3, H4, H5, H6⟩
  isplitl [HS HP]
  · isplitl [HS]; · iexact HS
    iexact HP
  isplitl [HO]; · iexact HO
  isplitl [H0]; · iexact H0
  isplitl [H1]; · iexact H1
  isplitl [H2]; · iexact H2
  isplitl [H3]; · iexact H3
  isplitl [H4]; · iexact H4
  isplitl [H5]; · iexact H5
  iexact H6

/-- The scoped buffers at anything are what the first point needs; -/
theorem scoped_enter : Pipeline.scopedRest spec0 c ⊢ (dat0 V c).Φ 0 := by
  rw [show (dat0 V c).Φ 0 = iprop((∃ d, owns (c : Thread nD τ) (Memref.whole cc0_scratch0) fullShare d) ∗ otherScoped c) from rfl, scopedRest0_eq]
  unfold otherScoped
  simp only [owns_whole_eq]
  iintro ⟨⟨%f, H⟩, HR⟩
  isplitl [H]
  · iexists f; iexists f; isplitr; · ipureintro; rfl
    iexact H
  iexact HR

/-- and the last point leaves them at anything. -/
theorem scoped_leave : (dat0 V c).Φ (Fin.last cfg0.N) ⊢ Pipeline.scopedRest spec0 c := by
  have h : (dat0 V c).Φ (Fin.last cfg0.N) = iprop(owns (c : Thread nD τ) (Memref.whole cc0_scratch0) fullShare (projected V c) ∗ otherScoped c) := by
    show iprop(scratchAt V c grid0.N ∗ otherScoped c) = _
    rw [N_0]; rfl
  rw [h, scopedRest0_eq]
  unfold otherScoped
  simp only [owns_whole_eq]
  iintro ⟨⟨%f, -, H⟩, HR⟩
  isplitl [H]; · iexists f; iexact H
  iexact HR

end Cert.Gcn

end
-- ==== Proof.Pass2Body.lean ====
module

public import proofs.«01_k».proof.Proof.Buffers

@[expose] public section

noncomputable section

namespace Cert.Gcn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The second pass's body at one grid point: from the quantised block `q`, the whole `y` and the bias row `b` in its
    three input buffers, it leaves the inputs as they were and `k1_pay1 q y b` in its output buffer. -/
theorem pass2_body (c : Dev nD) (i : grid1.Coords)
    (a1 : Memref sig .tc .vmem S2000x10000 .fp8e4m3) (h1 : a1.IsWhole) (a2 : Memref sig .tc .vmem S10000x128 .fp8e4m3) (h2 : a2.IsWhole)
    (a3 : Memref sig .tc .vmem S1x128 .f32) (h3 : a3.IsWhole) (a4 : Memref sig .tc .vmem S2000x128 .f32) (h4 : a4.IsWhole)
    (q : Vec F S2000x10000 .fp8e4m3) (y : Vec F S10000x128 .fp8e4m3) (b : Vec F S1x128 .f32) (K : PUnit → sProp 𝕄) :
    iprop(owns (c : Thread nD τ) a1 fullShare q ∗ owns (c : Thread nD τ) a2 fullShare y ∗ owns (c : Thread nD τ) a3 fullShare b
        ∗ (∃ d, owns (c : Thread nD τ) a4 fullShare d)
        ∗ (iprop(owns (c : Thread nD τ) a1 fullShare q ∗ owns (c : Thread nD τ) a2 fullShare y ∗ owns (c : Thread nD τ) a3 fullShare b
            ∗ owns (c : Thread nD τ) a4 fullShare (k1_pay1 q y b)) -∗ K ⟨⟩))
      ⊢ wp frame (wpE (defs₀ (F := F)) Variants.none c none) Set.univ (cc1__pass2_body i a1 h1 a2 h2 a3 h3 a4 h4) K := by
  simp only [cc1__pass2_body_eq_skeleton]; unfold cc1__pass2_body_skel
  unfold owns
  iintro ⟨⟨%f1, %e1, H1⟩, ⟨%f2, %e2, H2⟩, ⟨%f3, %e3, H3⟩, ⟨%d, %f4, -, H4⟩, Hk⟩
  sl_exec
  sl_step
  iapply Hk
  rw [readAt_whole a1.view f1 zero_off2, readAt_whole a2.view f2 zero_off2, readAt_whole a3.view f3 zero_off2, e1, e2, e3]
  isplitl [H1]; · iapply reads_of_read c a1 f1 q e1; iexact H1
  isplitl [H2]; · iapply reads_of_read c a2 f2 y e2; iexact H2
  isplitl [H3]; · iapply reads_of_read c a3 f3 b e3; iexact H3
  iapply reads_of_read c a4 _ _ (read_whole_store a4.view f4 zero_off2 inb_S2000x128_S2000x128_0_0 _); iexact H4

end Cert.Gcn

end
-- ==== Proof.Pass2Data.lean ====
module

public import proofs.«01_k».proof.Proof.Pass2Body

@[expose] public section

noncomputable section

namespace Cert.Gcn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (UR sig nD τ) ℕ

variable (V : Dev nD → Valuation τ sig (Elt F)) (c : Dev nD)

/-- The block of 2000 rows of the quantised matrix that the second pass reads at point `t`. -/
def qBlock (t : Fin cfg1.N) : Vec F S2000x10000 .fp8e4m3 := ((cfg1.win 0).blk t).view.read (Elt F) (V c main_v1_1)

/-- The whole of the hidden array, as the second pass reads it at point `t`. -/
def hBlock (t : Fin cfg1.N) : Vec F S10000x128 .fp8e4m3 := ((cfg1.win 1).blk t).view.read (Elt F) (V c main_v1_0)

/-- The second bias row, as the second pass reads it at point `t`. -/
def biasBlock2 (t : Fin cfg1.N) : Vec F S1x128 .f32 := ((cfg1.win 2).blk t).view.read (Elt F) (V c main_v2)

/-- The second pass's proof data on core `c`, entered from the buffers `V c`: the inputs stay at their blocks, the output block is
    the body's value of them, and the other scoped buffers are at anything throughout. -/
def dat1 : Dat τ (Elt F) Unit ℕ (UR sig nD τ) ℕ cfg1 c where
  A w := V c (Pipeline.arrRef spec1 w)
  after w t := match w with
    | ⟨0, _⟩ => qBlock V c t
    | ⟨1, _⟩ => hBlock V c t
    | ⟨2, _⟩ => biasBlock2 V c t
    | ⟨3, _⟩ => k1_pay1 (qBlock V c t) (hBlock V c t) (biasBlock2 V c t)
  Φ _ := Pipeline.scopedRest spec1 c
  q _ := fullShare
  owed _ := 0

/-- The body finds the quantised block in its first window; -/
theorem before1_0 (t : Fin cfg1.N) (d) : (dat1 V c).before 0 t d = qBlock V c t :=
  (dat1 V c).before_in_eq_fetched 0 rfl (fun _ => rfl) (fun _ _ _ => rfl) (fun _ => rfl) t d
/-- the hidden array in its second; -/
theorem before1_1 (t : Fin cfg1.N) (d) : (dat1 V c).before 1 t d = hBlock V c t :=
  (dat1 V c).before_in_eq_fetched 1 rfl (fun _ => rfl) (fun _ _ _ => rfl) (fun _ => rfl) t d
/-- and the bias row in its third. -/
theorem before1_2 (t : Fin cfg1.N) (d) : (dat1 V c).before 2 t d = biasBlock2 V c t :=
  (dat1 V c).before_in_eq_fetched 2 rfl (fun _ => rfl) (fun _ _ _ => rfl) (fun _ => rfl) t d

theorem defs₀_pass2 (t : Fin cfg1.N) : (defs₀ (F := F)) .tc cfg1.body (cfg1.bodyArgs t (cfg1.slots t)) = bodyAt1 t := by
  unfold defs₀; rw [Defs.onTc_tc]

/-- At every grid point the second pass's body does what its proof data say. -/
theorem obligation1 : BodyObligation (dat1 V c) (defs₀ (F := F)) Variants.none () Set.univ := fun t => by
  rw [defs₀_pass2, bigSep_W1, bigSep_W1, show (dat1 V c).Φ t.castSucc = Pipeline.scopedRest spec1 c from rfl,
    show (dat1 V c).Φ t.succ = Pipeline.scopedRest spec1 c from rfl]
  iintro ⟨HP, HO, ⟨%d0, H0⟩, ⟨%d1, H1⟩, ⟨%d2, H2⟩, ⟨%d3, H3⟩⟩
  rw [before1_0, before1_1, before1_2]
  iapply (pass2_body c (grid1.coords t) (win1_0.stage (cfg1.slots t 0)) _ (win1_1.stage (cfg1.slots t 1)) _
    (win1_2.stage (cfg1.slots t 2)) _ (win1_3.stage (cfg1.slots t 3)) _ (qBlock V c t) (hBlock V c t) (biasBlock2 V c t))
  isplitl [H0]; · iexact H0
  isplitl [H1]; · iexact H1
  isplitl [H2]; · iexact H2
  isplitl [H3]; · iexists _; iexact H3
  iintro ⟨H0, H1, H2, H3⟩
  isplitl [HP]; · iexact HP
  isplitl [HO]; · iexact HO
  isplitl [H0]; · iexact H0
  isplitl [H1]; · iexact H1
  isplitl [H2]; · iexact H2
  iexact H3

end Cert.Gcn

end
-- ==== Proof.Run.lean ====
module

public import proofs.«01_k».proof.Proof.Pass1Data
public import proofs.«01_k».proof.Proof.Pass2Data
public import proofs.«01_k».proof.Proof.Gen.KernelIdeal.Regions
public import Idealize.ShloMosaic.Lib.Pipeline.RegionArraysS

@[expose] public section

noncomputable section

namespace Cert.Gcn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ)

/-! ## The buffers' contents between the program's four items -/

/-- A core's buffers at launch, -/
def mem0 (c : Dev nD) : Valuation τ sig (Elt F) := fun b => m (c, b)
/-- once the first bias has been made a row, -/
def mem1 (c : Dev nD) : Valuation τ sig (Elt F) := StableHlo.after hostOps0 (mem0 m c)
/-- after the first pass, -/
def mem2 (c : Dev nD) : Valuation τ sig (Elt F) := Pipeline.afterRegion (dat0 (mem1 m) c) (mem1 m c)
/-- once the second bias has been made a row, -/
def mem3 (c : Dev nD) : Valuation τ sig (Elt F) := StableHlo.after hostOps1 (mem2 m c)
/-- and after the second pass. -/
def mem4 (c : Dev nD) : Valuation τ sig (Elt F) := Pipeline.afterRegion (dat1 (mem3 m) c) (mem3 m c)

/-- The first host operation writes the first bias row only. -/
theorem mem1_of (c : Dev nD) (r : Ref sig .tc) (h : r ∉ ([main_v0] : List (Ref sig .tc))) : mem1 m c r = mem0 m c r :=
  StableHlo.after_of_writes_sub hostOps0 _ hostOps0_writes h
/-- The first pass writes its two outputs only. -/
theorem mem2_of (c : Dev nD) (r : Ref sig .tc) (h : ∀ w, Pipeline.arrRef cfg0.spec w = r → (cfg0.win w).isOut = false) :
    mem2 m c r = mem1 m c r :=
  Pipeline.afterRegion_keeps (dat0 (mem1 m) c) (mem1 m c) launch0.win.arr_inj (fun _ => rfl) r h
/-- The second host operation writes the second bias row only. -/
theorem mem3_of (c : Dev nD) (r : Ref sig .tc) (h : r ∉ ([main_v2] : List (Ref sig .tc))) : mem3 m c r = mem2 m c r :=
  StableHlo.after_of_writes_sub hostOps1 _ hostOps1_writes h
/-- The second pass writes its output only. -/
theorem mem4_of (c : Dev nD) (r : Ref sig .tc) (h : ∀ w, Pipeline.arrRef cfg1.spec w = r → (cfg1.win w).isOut = false) :
    mem4 m c r = mem3 m c r :=
  Pipeline.afterRegion_keeps (dat1 (mem3 m) c) (mem3 m c) launch1.win.arr_inj (fun _ => rfl) r h

/-- A buffer no item writes ends as launched. -/
theorem mem4_kept (c : Dev nD) (r : Ref sig .tc) (h0 : r ∉ ([main_v0] : List (Ref sig .tc)))
    (h1 : ∀ w, Pipeline.arrRef cfg0.spec w = r → (cfg0.win w).isOut = false) (h2 : r ∉ ([main_v2] : List (Ref sig .tc)))
    (h3 : ∀ w, Pipeline.arrRef cfg1.spec w = r → (cfg1.win w).isOut = false) : mem4 m c r = m ((c : Thread nD τ).loc r) :=
  (mem4_of m c r h3).trans <| (mem3_of m c r h2).trans <| (mem2_of m c r h1).trans <| (mem1_of m c r h0).trans rfl

/-- The result ends at what the second pass's write-backs leave in it. -/
theorem mem4_out (c : Dev nD) : mem4 m c main_v3 = (dat1 (mem3 m) c).arrAt 3 cfg1.N :=
  Pipeline.afterRegion_arr (dat1 (mem3 m) c) (mem3 m c) launch1.win.arr_inj 3

/-! ## The program as segments -/

/-- The first pass's arrays are among the unscoped buffers, -/
theorem arrays0_sub : Pipeline.arrRefs (τ := τ) spec0 ⊆ Pipeline.ucRefs τ sig := Pipeline.arrRefs_sub_ucRefs spec0 (by decide)
/-- and so are the second's. -/
theorem arrays1_sub : Pipeline.arrRefs (τ := τ) spec1 ⊆ Pipeline.ucRefs τ sig := Pipeline.arrRefs_sub_ucRefs spec1 (by decide)

/-- Both passes' proof data. -/
def dats : (p : Fin 2) → (c : Dev nD) → Dat τ (Elt F) Unit ℕ (UR sig nD τ) ℕ (cfgs p) c
  | ⟨0, _⟩, c => dat0 (mem1 m) c
  | ⟨1, _⟩, c => dat1 (mem3 m) c

/-- Each TensorCore's counters carry the one index there is. -/
def lvls (g : GSem nD τ sig) : Finset Unit := if g.1.2 = .tc then {()} else ∅
/-- Nothing is owed, so one level serves. -/
def lv (_ : GSem nD τ sig) (_ : Unit) : ℕ := 0

/-- What rides beside the buffers between items: the core owes nothing. -/
def rest (c : Dev nD) : sProp 𝕄 :=
  iprop((∃ Wd, owes (c : Thread nD τ) (0 : CellTallies nD τ sig Unit) Wd) ∗ BI.emp ∗ BI.emp)

set_option backward.isDefEq.respectTransparency.types false in
/-- The first pass as a segment: entered from `mem1`, left at `mem2`. -/
def region0 : RegionSeg (pcfgs (F := F)) adm (dats m) () defs₀ Variants.none lvls lv 0 :=
  RegionSeg.ofHeldIn (pcfgs (F := F)) adm (dats m) () defs₀ Variants.none lvls lv 0 (fun _ => 0) (Pipeline.ucRefs τ sig)
    (fun _ => BI.emp) (fun _ => BI.emp) launch0.toP rfl (fun c => (obligation0 (mem1 m) c).loose) (fun _ _ => rfl) (fun _ => rfl)
    (fun c w => (dats m 0 c).share_full (fun _ => rfl) w)
    (fun c => show iprop(Pipeline.scopedRest spec0 c ∗ BI.emp) ⊢ (dat0 (mem1 m) c).Φ 0 from by
      iintro ⟨H, -⟩
      iapply (scoped_enter (mem1 m) c); iexact H)
    (fun c => show (dat0 (mem1 m) c).Φ (Fin.last cfg0.N) ⊢ iprop(Pipeline.scopedRest spec0 c ∗ BI.emp) from by
      iintro H
      isplitl [H]; · iapply (scoped_leave (mem1 m) c); iexact H
      iempintro)
    (fun _ => 0) ⟨fun c w s => by unfold lvls; rw [if_pos rfl]; exact Finset.mem_singleton_self _, fun _ _ _ => le_rfl,
      fun _ _ _ h => absurd h (lt_irrefl 0)⟩
    (fun _ => BI.emp) (mem1 m) (fun _ _ => rfl)

set_option backward.isDefEq.respectTransparency.types false in
/-- The second pass as a segment: entered from `mem3`, left at `mem4`. -/
def region1 : RegionSeg (pcfgs (F := F)) adm (dats m) () defs₀ Variants.none lvls lv 1 :=
  RegionSeg.ofHeldIn (pcfgs (F := F)) adm (dats m) () defs₀ Variants.none lvls lv 1 (fun _ => 0) (Pipeline.ucRefs τ sig)
    (fun _ => BI.emp) (fun _ => BI.emp) launch1.toP rfl (fun c => (obligation1 (mem3 m) c).loose) (fun _ _ => rfl) (fun _ => rfl)
    (fun c w => (dats m 1 c).share_full (fun _ => rfl) w)
    (fun c => show iprop(Pipeline.scopedRest spec1 c ∗ BI.emp) ⊢ Pipeline.scopedRest spec1 c from by
      iintro ⟨H, -⟩
      iexact H)
    (fun c => show Pipeline.scopedRest spec1 c ⊢ iprop(Pipeline.scopedRest spec1 c ∗ BI.emp) from by
      iintro H
      isplitl [H]; · iexact H
      iempintro)
    (fun _ => 0) ⟨fun c w s => by unfold lvls; rw [if_pos rfl]; exact Finset.mem_singleton_self _, fun _ _ _ => le_rfl,
      fun _ _ _ h => absurd h (lt_irrefl 0)⟩
    (fun _ => BI.emp) (mem3 m) (fun _ _ => rfl)

set_option backward.isDefEq.respectTransparency.types false in
/-- The first pass is entered from the unscoped buffers at `mem1`, -/
theorem region0_pre (c : Dev nD) :
    iprop(StableHlo.held (c : Thread nD τ) (Pipeline.ucRefs τ sig) (mem1 m c) ∗ rest c) ⊢ (region0 m).pre c := by
  unfold region0 rest
  exact RegionSeg.ofHeldIn_pre (pcs := pcfgs (F := F)) (a := adm) (pdats := dats m) (p := 0) (D := fun _ => 0) (R := fun _ => BI.emp)
    (X := fun _ => BI.emp) (Y := fun _ => BI.emp) (S := Pipeline.ucRefs τ sig) arrays0_sub c

set_option backward.isDefEq.respectTransparency.types false in
/-- and left with them at `mem2`. -/
theorem region0_post (c : Dev nD) :
    (region0 m).post c ⊢ iprop(StableHlo.held (c : Thread nD τ) (Pipeline.ucRefs τ sig) (mem2 m c) ∗ rest c) := by
  unfold region0 rest mem2
  exact RegionSeg.ofHeldIn_post (pcs := pcfgs (F := F)) (a := adm) (pdats := dats m) (p := 0) (D := fun _ => 0) (R := fun _ => BI.emp)
    (X := fun _ => BI.emp) (Y := fun _ => BI.emp) (S := Pipeline.ucRefs τ sig) arrays0_sub c

set_option backward.isDefEq.respectTransparency.types false in
/-- The second pass is entered from the unscoped buffers at `mem3`, -/
theorem region1_pre (c : Dev nD) :
    iprop(StableHlo.held (c : Thread nD τ) (Pipeline.ucRefs τ sig) (mem3 m c) ∗ rest c) ⊢ (region1 m).pre c := by
  unfold region1 rest
  exact RegionSeg.ofHeldIn_pre (pcs := pcfgs (F := F)) (a := adm) (pdats := dats m) (p := 1) (D := fun _ => 0) (R := fun _ => BI.emp)
    (X := fun _ => BI.emp) (Y := fun _ => BI.emp) (S := Pipeline.ucRefs τ sig) arrays1_sub c

set_option backward.isDefEq.respectTransparency.types false in
/-- and left with them at `mem4`. -/
theorem region1_post (c : Dev nD) :
    (region1 m).post c ⊢ iprop(StableHlo.held (c : Thread nD τ) (Pipeline.ucRefs τ sig) (mem4 m c) ∗ rest c) := by
  unfold region1 rest mem4
  exact RegionSeg.ofHeldIn_post (pcs := pcfgs (F := F)) (a := adm) (pdats := dats m) (p := 1) (D := fun _ => 0) (R := fun _ => BI.emp)
    (X := fun _ => BI.emp) (Y := fun _ => BI.emp) (S := Pipeline.ucRefs τ sig) arrays1_sub c

/-- The first host operation as a segment. -/
def host0 : HostSeg (Name := ℕ) (U := UR sig nD τ) (pcfgs (F := F)) defs₀ Variants.none lvls lv :=
  HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (mem0 m) rest
/-- The second host operation as a segment. -/
def host1 : HostSeg (Name := ℕ) (U := UR sig nD τ) (pcfgs (F := F)) defs₀ Variants.none lvls lv :=
  HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_fresh) op h) (mem2 m) rest

/-- The program's four items in order. -/
abbrev items : List (Seg (pcfgs (F := F)) adm (dats m) () defs₀ Variants.none lvls lv) :=
  [.host (host0 m), .region (region0 m), .host (host1 m), .region (region1 m)]

variable (ρ : Dev nD → PrngReg)

set_option backward.isDefEq.respectTransparency.types false in
/-- From any memory with every counter at zero the program runs to its end without fault, and leaves every unscoped buffer of
    every core at `mem4`, with every counter at zero. -/
theorem run_all : θ_run defs (onTc (τ := τ) (main (F := F))) ⟨m, fun _ => 0, ρ⟩ (fun r =>
    (∀ c : Dev nD, ∀ b ∈ Pipeline.ucRefs τ sig, r.2.mem ((c, b) : Loc nD τ sig) = mem4 m c b) ∧ r.2.sem = fun _ => 0) :=
  Pipeline.θ_run_regions_kit_sems (pcfgs (F := F)) adm (dats m) () cellOf_inj emb₁ defs₀ Variants.none lvls lv m ρ main (items m)
    (fun c Q => by rw [main_segs adm (dats m) () Variants.none lvls lv (host0 m) (host1 m) (region0 m) (region1 m) rfl rfl c])
    (by simp only [Seg.pipes_host, Seg.pipes_region, Seg.pipes_nil]; decide) (O₀ := 0)
    (hL := fun g h => by unfold lvls; rw [if_neg h]) (G := fun _ => iprop(emp))
    (u₀ := initOf (Pipeline.cells cfgs cellOf_inj) (Pipeline.launchToks cfgs cellOf_inj))
    (hu₀ := by
      iintro Hu
      imodintro
      isplitl [Hu]
      · iapply (show ownU (initOf (Pipeline.cells cfgs cellOf_inj) (Pipeline.launchToks cfgs cellOf_inj))
          ⊢ (BI.own (emb₁ (initOf (Pipeline.cells cfgs cellOf_inj) (Pipeline.launchToks cfgs cellOf_inj))) : sProp 𝕄) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (mem0 m c) ∗ rest c))
    (Tₙ := fun c => StableHlo.held (c : Thread nD τ) (Pipeline.ucRefs τ sig) (mem4 m c))
    (hch := ⟨fun _ => .rfl, region0_pre m, region0_post m, region1_pre m, fun c => (region1_post m c).trans (by
      unfold rest
      iintro ⟨Hh, HO, -, -⟩
      isplitl [Hh]; · iexact Hh
      iexact HO)⟩)
    (hinit := by
      refine Pipeline.initEach lvls lv fun c => ?_
      rw [show unscopedBufs c (fun b => m ((c : Thread nD τ).loc b)) = StableHlo.held (c : Thread nD τ) (Pipeline.ucRefs τ sig) (mem0 m c)
        from Pipeline.unscopedBufs_held c (mem0 m c)]
      unfold rest
      iintro ⟨⟨Hh, -, HO, -, -, -⟩, -⟩
      imodintro
      isplitl [Hh]; · iexact Hh
      isplitl [HO]; · iexists ∅; iexact HO
      isplitr <;> iempintro)
    (QY := fun c s => ∀ b ∈ Pipeline.ucRefs τ sig, s.mem ((c, b) : Loc nD τ sig) = mem4 m c b)
    (hfin := fun c s' => by
      unfold StableHlo.held
      iintro ⟨Hh, HSI⟩
      ihave Hr := (pointsTo_read_all (Pipeline.ucRefs τ sig) (fun b => ((c : Thread nD τ).1, b)) (mem4 m c) s') $$ [Hh HSI]
      · isplitl [Hh] <;> iassumption
      icases Hr with ⟨%h, HSI⟩
      imodintro
      isplitr
      · ipureintro; exact h
      · iexact HSI)
    (hQ := fun _ h hz => ⟨h, funext fun g => hz g (.inr (regions_no_unscoped g.2))⟩)

/-- From any memory with every counter at zero the program runs to its end without fault; its result is what the second pass's
    write-backs leave, its arguments are as launched and every counter is back at zero. -/
theorem run : θ_run defs (onTc (τ := τ) (main (F := F))) ⟨m, fun _ => 0, ρ⟩ (fun r =>
    (∀ c : Dev nD, r.2.mem ((c.tc : Thread nD τ).loc main_v3) = (dat1 (mem3 m) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
    ∧ r.2.sem = fun _ => 0) := by
  refine (θ_run defs _ _).mono ?_ (run_all m ρ)
  rintro r ⟨h, hz⟩
  have read : ∀ (c : Dev nD) (b : Ref sig .tc), ¬ (Proc.devRef .tc b : DevRef τ sig).isScoped →
      r.2.mem ((c.tc : Thread nD τ).loc b) = mem4 m c b := fun c b hb =>
    h c (Proc.devRef .tc b) (Finset.mem_filter.mpr ⟨StableHlo.devRef_mem_tcRefs b, hb⟩)
  refine ⟨fun c => ⟨(read c main_v3 (by decide)).trans (mem4_out m c), ?_, ?_, ?_, ?_, ?_, ?_⟩, hz⟩
  · exact (read c main_arg0 (by decide)).trans (mem4_kept m c main_arg0 (by decide) (by decide) (by decide) (by decide))
  · exact (read c main_arg1 (by decide)).trans (mem4_kept m c main_arg1 (by decide) (by decide) (by decide) (by decide))
  · exact (read c main_arg2 (by decide)).trans (mem4_kept m c main_arg2 (by decide) (by decide) (by decide) (by decide))
  · exact (read c main_arg3 (by decide)).trans (mem4_kept m c main_arg3 (by decide) (by decide) (by decide) (by decide))
  · exact (read c main_arg4 (by decide)).trans (mem4_kept m c main_arg4 (by decide) (by decide) (by decide) (by decide))
  · exact (read c main_arg5 (by decide)).trans (mem4_kept m c main_arg5 (by decide) (by decide) (by decide) (by decide))

end Cert.Gcn

end
-- ==== Proof.Network.lean ====
module

public import Idealize.ShloMosaic.Lib.Pointwise

@[expose] public section

noncomputable section

namespace Cert.Gcn

open Idealize.ShloMosaic

/-- Two indices of a matrix with the same coordinates are one. -/
theorem idx2_ext {M N : ℕ} {i j : (⟨2, ![M, N]⟩ : Shape).Idx} (h0 : (i 0).val = (j 0).val) (h1 : (i 1).val = (j 1).val) : i = j := by
  rw [eq_ix2 i, eq_ix2 j, Fin.ext h0, Fin.ext h1]

/-! The two-layer graph network over the extended reals, one row at a time. -/

/-- The value a running maximum starts from: what the single-precision word of minus infinity stands for. -/
def lowest : EReal := Ideal.ofBits .f32 0xFF800000#32

/-- The features times the first weights, at node `k` and hidden unit `h`. -/
def projection (x : Fin 10000 → Fin 128 → EReal) (w : Fin 128 → Fin 16 → EReal) (k : Fin 10000) (h : Fin 16) : EReal :=
  ∑ f, x k f * w f h

/-- One node's row of the first layer times the second weights, at class `l`: the node's row `a` of the matrix times the projected
    features `y`, plus the bias, cut off at zero, times the weights. -/
def layerRow (a : Fin 10000 → EReal) (y : Fin 10000 → Fin 16 → EReal) (b : Fin 16 → EReal) (w : Fin 16 → Fin 128 → EReal)
    (l : Fin 128) : EReal :=
  ∑ h, max (∑ k, a k * y k h + b h) 0 * w h l

/-- One node's row of the second layer before the softmax, at class `l`. -/
def logitRow (a : Fin 10000 → EReal) (u : Fin 10000 → Fin 128 → EReal) (b : Fin 128 → EReal) (l : Fin 128) : EReal :=
  ∑ k, a k * u k l + b l

/-- The largest of a row's 128 entries. -/
def rowMax (z : Fin 128 → EReal) : EReal := Finset.univ.fold max lowest z

/-- A row's logarithm of softmax at class `l`: the entry less the row's maximum, less the logarithm of the sum of the exponentials of
    all entries less that maximum. -/
def logSoftmax (z : Fin 128 → EReal) (l : Fin 128) : EReal :=
  z l - rowMax z - Ideal.log (∑ k, Ideal.exp (z k - rowMax z))

/-- Taking the maximum once more with the starting value changes nothing. -/
theorem max_lowest_rowMax (z : Fin 128 → EReal) : max lowest (rowMax z) = rowMax z :=
  max_eq_right ((Finset.le_fold_max lowest).mpr (Or.inl le_rfl))

/-- The whole network at node `r` and class `l`. -/
def network (x : Fin 10000 → Fin 128 → EReal) (a : Fin 10000 → Fin 10000 → EReal) (w1 : Fin 128 → Fin 16 → EReal)
    (b1 : Fin 16 → EReal) (w2 : Fin 16 → Fin 128 → EReal) (b2 : Fin 128 → EReal) (r : Fin 10000) (l : Fin 128) : EReal :=
  logSoftmax (logitRow (a r) (fun k => layerRow (a k) (projection x w1) b1 w2) b2) l

end Cert.Gcn

end
-- ==== Proof.BlockValue.lean ====
module

public import proofs.«01_k».proof.Proof.Gen.KernelIdeal.Skeleton
public import proofs.«01_k».proof.Proof.Network

@[expose] public section

noncomputable section

namespace Cert.Gcn

open Cert.KernelIdeal Cert.KernelIdeal.Gen Idealize.ShloMosaic

/-! What one block of each pass computes over the extended reals. A change of float format changes no value there. -/

/-- The first point of the first pass puts the projected features in the scratch buffer. -/
theorem projected_apply (x : Vec Ideal S10000x128 .f32) (w : Vec Ideal S128x16 .f32) (k : Fin 10000) (h : Fin 16) :
    k0_pay1 x w (ix2 k h) = projection (fun k f => x (ix2 k f)) (fun f h => w (ix2 f h)) k h := by
  unfold projection
  pointwise [k0_pay1]

/-- A point of the first pass copies its block of the matrix to the second output. -/
theorem copied_apply (a : Vec Ideal S400x10000 .f32) (r : Fin 400) (k : Fin 10000) : k0_pay2 a (ix2 r k) = a (ix2 r k) := by
  pointwise [k0_pay2]

/-- A point of the first pass writes its rows of the first layer times the second weights to the first output. -/
theorem layer_apply (a : Vec Ideal S400x10000 .f32) (y : Vec Ideal S10000x16 .fp8e4m3) (b : Vec Ideal S1x16 .f32)
    (w : Vec Ideal S16x128 .f32) (r : Fin 400) (l : Fin 128) :
    k0_pay3 a y b w (ix2 r l)
      = layerRow (fun k => a (ix2 r k)) (fun k h => y (ix2 k h)) (fun h => b (ix2 0 h)) (fun h l => w (ix2 h l)) l := by
  unfold layerRow
  pointwise [k0_pay3, k0_pay2]

/-- A point of the second pass writes its rows' logarithms of softmax. -/
theorem softmax_apply (q : Vec Ideal S2000x10000 .fp8e4m3) (u : Vec Ideal S10000x128 .fp8e4m3) (b : Vec Ideal S1x128 .f32)
    (r : Fin 2000) (l : Fin 128) :
    k1_pay1 q u b (ix2 r l)
      = logSoftmax (logitRow (fun k => q (ix2 r k)) (fun k l => u (ix2 k l)) (fun l => b (ix2 0 l))) l := by
  unfold logSoftmax rowMax logitRow lowest
  pointwise [k1_pay1]

end Cert.Gcn

end
-- ==== Proof.Pass1Value.lean ====
module

public import proofs.«01_k».proof.Proof.Pass1Data
public import proofs.«01_k».proof.Proof.BlockValue
public import Idealize.ShloMosaic.Lib.Pipeline.Value

@[expose] public section

noncomputable section

namespace Cert.Gcn

open Cert.KernelIdeal Cert.KernelIdeal.Gen
open Idealize.ShloMosaic Idealize.ShloMosaic.TcCoe Idealize.SL.Sem
open Idealize.ShloMosaic.Pipeline (Dat)

/-! What the first pass's two output arrays hold over the extended reals. -/

variable (V : Dev nD → Valuation τ sig (Elt Ideal)) (c : Dev nD)

/-- The features, as numbers; -/
def features (k : Fin 10000) (f : Fin 128) : EReal := (V c main_arg0 : Vec Ideal S10000x128 .f32) (ix2 k f)
/-- the matrix; -/
def matrix (r k : Fin 10000) : EReal := (V c main_arg1 : Vec Ideal S10000x10000 .f32) (ix2 r k)
/-- the first weights; -/
def weights1 (f : Fin 128) (h : Fin 16) : EReal := (V c main_arg2 : Vec Ideal S128x16 .f32) (ix2 f h)
/-- the first bias row; -/
def biasRow1 (h : Fin 16) : EReal := (V c main_v0 : Vec Ideal S1x16 .f32) (ix2 0 h)
/-- and the second weights. -/
def weights2 (h : Fin 16) (l : Fin 128) : EReal := (V c main_arg4 : Vec Ideal S16x128 .f32) (ix2 h l)

/-- Which block each window of the first pass is at: the two arrays cut in rows move with the point, the others stay. -/
theorem index0 : ∀ t : Fin grid0.N,
    (win0_1.index t 0 = t.val ∧ win0_1.index t 1 = 0) ∧ (win0_5.index t 0 = t.val ∧ win0_5.index t 1 = 0)
      ∧ (win0_6.index t 0 = t.val ∧ win0_6.index t 1 = 0) ∧ (win0_0.index t 0 = 0 ∧ win0_0.index t 1 = 0)
      ∧ (win0_2.index t 0 = 0 ∧ win0_2.index t 1 = 0) ∧ (win0_3.index t 0 = 0 ∧ win0_3.index t 1 = 0)
      ∧ (win0_4.index t 0 = 0 ∧ win0_4.index t 1 = 0) := by
  decide

/-- A row of a block of 400 is a row of the array. -/
theorem row0_lt (t : Fin cfg0.N) (r : Fin 400) : t.val * 400 + r.val < 10000 := by
  have ht : t.val < 25 := Nat.lt_of_lt_of_eq t.isLt N_0
  have := r.isLt
  omega

/-- Row `r` of block `t` of 400 rows. -/
def row0 (t : Fin cfg0.N) (r : Fin 400) : Fin 10000 := ⟨t.val * 400 + r.val, row0_lt t r⟩

/-- The features' block is the features. -/
theorem xBlock_apply (t : Fin cfg0.N) (k : Fin 10000) (f : Fin 128) : xBlock V c t (ix2 k f) = features V c k f := by
  have hi := (index0 t).2.2.2.1
  unfold xBlock features
  rw [View.read_apply]
  show (V c main_arg0 : Vec Ideal S10000x128 .f32) _ = _
  refine congrArg _ (idx2_ext ?_ ?_)
  · show win0_0.index t 0 * 10000 + 1 * k.val = k.val; rw [hi.1]; omega
  · show win0_0.index t 1 * 128 + 1 * f.val = f.val; rw [hi.2]; omega

/-- The matrix's block is 400 of its rows. -/
theorem aBlock_apply (t : Fin cfg0.N) (r : Fin 400) (k : Fin 10000) : aBlock V c t (ix2 r k) = matrix V c (row0 t r) k := by
  have hi := (index0 t).1
  unfold aBlock matrix
  rw [View.read_apply]
  show (V c main_arg1 : Vec Ideal S10000x10000 .f32) _ = _
  refine congrArg _ (idx2_ext ?_ ?_)
  · show win0_1.index t 0 * 400 + 1 * r.val = t.val * 400 + r.val; rw [hi.1]; omega
  · show win0_1.index t 1 * 10000 + 1 * k.val = k.val; rw [hi.2]; omega

/-- The first weights' block is the first weights. -/
theorem wBlock1_apply (t : Fin cfg0.N) (f : Fin 128) (h : Fin 16) : wBlock1 V c t (ix2 f h) = weights1 V c f h := by
  have hi := (index0 t).2.2.2.2.1
  unfold wBlock1 weights1
  rw [View.read_apply]
  show (V c main_arg2 : Vec Ideal S128x16 .f32) _ = _
  refine congrArg _ (idx2_ext ?_ ?_)
  · show win0_2.index t 0 * 128 + 1 * f.val = f.val; rw [hi.1]; omega
  · show win0_2.index t 1 * 16 + 1 * h.val = h.val; rw [hi.2]; omega

/-- The first bias row's block is the first bias row. -/
theorem biasBlock1_apply (t : Fin cfg0.N) (h : Fin 16) : biasBlock1 V c t (ix2 0 h) = biasRow1 V c h := by
  have hi := (index0 t).2.2.2.2.2.1
  unfold biasBlock1 biasRow1
  rw [View.read_apply]
  show (V c main_v0 : Vec Ideal S1x16 .f32) _ = _
  refine congrArg _ (idx2_ext ?_ ?_)
  · show win0_3.index t 0 * 1 + 1 * 0 = 0; rw [hi.1]
  · show win0_3.index t 1 * 16 + 1 * h.val = h.val; rw [hi.2]; omega

/-- The second weights' block is the second weights. -/
theorem wBlock2_apply (t : Fin cfg0.N) (h : Fin 16) (l : Fin 128) : wBlock2 V c t (ix2 h l) = weights2 V c h l := by
  have hi := (index0 t).2.2.2.2.2.2
  unfold wBlock2 weights2
  rw [View.read_apply]
  show (V c main_arg4 : Vec Ideal S16x128 .f32) _ = _
  refine congrArg _ (idx2_ext ?_ ?_)
  · show win0_4.index t 0 * 16 + 1 * h.val = h.val; rw [hi.1]; omega
  · show win0_4.index t 1 * 128 + 1 * l.val = l.val; rw [hi.2]; omega

/-- The scratch buffer holds the projected features. -/
theorem projected_value (k : Fin 10000) (h : Fin 16) :
    projected V c (ix2 k h) = projection (features V c) (weights1 V c) k h := by
  unfold projected
  rw [projected_apply]
  simp only [xBlock_apply, wBlock1_apply]

/-- The first output array: every row of the first layer times the second weights. -/
def layerArray : Vec Ideal S10000x128 .fp8e4m3 := fun j =>
  layerRow (matrix V c (j 0)) (projection (features V c) (weights1 V c)) (biasRow1 V c) (weights2 V c) (j 1)

/-- The second output array: the matrix again. -/
def matrixArray : Vec Ideal S10000x10000 .fp8e4m3 := fun j => matrix V c (j 0) (j 1)

/-- What a point writes back to the first output array is its block of `layerArray`. -/
theorem flushed0_5 (t : Fin cfg0.N) : (dat0 V c).flushed 5 t = ((cfg0.win 5).blk t).view.read (Elt Ideal) (layerArray V c) := by
  have hi := (index0 t).2.1
  show (k0_pay3 (aBlock V c t) (projected V c) (biasBlock1 V c t) (wBlock2 V c t) : Vec Ideal S400x128 .fp8e4m3) = _
  funext j
  rw [View.read_apply]
  show _ = layerArray V c _
  obtain ⟨r, l, rfl⟩ : ∃ (r : Fin 400) (l : Fin 128), j = ix2 r l := ⟨j 0, j 1, eq_ix2 j⟩
  rw [layer_apply]
  simp only [aBlock_apply, projected_value, biasBlock1_apply, wBlock2_apply]
  refine Eq.trans (b := layerArray V c (ix2 (row0 t r) l)) rfl (congrArg (layerArray V c) (idx2_ext ?_ ?_))
  · show t.val * 400 + r.val = win0_5.index t 0 * 400 + 1 * r.val; rw [hi.1]; omega
  · show l.val = win0_5.index t 1 * 128 + 1 * l.val; rw [hi.2]; omega

/-- What a point writes back to the second output array is its block of `matrixArray`. -/
theorem flushed0_6 (t : Fin cfg0.N) : (dat0 V c).flushed 6 t = ((cfg0.win 6).blk t).view.read (Elt Ideal) (matrixArray V c) := by
  have hi := (index0 t).2.2.1
  show (k0_pay2 (aBlock V c t) : Vec Ideal S400x10000 .fp8e4m3) = _
  funext j
  rw [View.read_apply]
  show _ = matrixArray V c _
  obtain ⟨r, k, rfl⟩ : ∃ (r : Fin 400) (k : Fin 10000), j = ix2 r k := ⟨j 0, j 1, eq_ix2 j⟩
  rw [copied_apply, aBlock_apply]
  refine Eq.trans (b := matrixArray V c (ix2 (row0 t r) k)) rfl (congrArg (matrixArray V c) (idx2_ext ?_ ?_))
  · show t.val * 400 + r.val = win0_6.index t 0 * 400 + 1 * r.val; rw [hi.1]; omega
  · show k.val = win0_6.index t 1 * 10000 + 1 * k.val; rw [hi.2]; omega

/-- The point of the first pass whose block has row `r`. -/
def point0 (r : Fin 10000) : Fin cfg0.N := ⟨r.val / 400, by
  show r.val / 400 < grid0.N
  rw [N_0]
  have := r.isLt
  omega⟩

/-- The first output array ends as `layerArray`. -/
theorem final0_5 : (dat0 V c).arrAt 5 cfg0.N = layerArray V c :=
  (dat0 V c).arrAt_eq_of_cover 5 (layerArray V c) (fun t _ => flushed0_5 V c t) fun i => by
    have h0 : (i 0 : Nat) < 10000 := (i 0).isLt
    have h1 : (i 1 : Nat) < 128 := (i 1).isLt
    have hi := (index0 (point0 (i 0))).2.1
    have hp : (point0 (i 0)).val = (i 0 : Nat) / 400 := rfl
    refine ⟨point0 (i 0), flush0_5 _, ?_⟩
    show i ∈ ((View.whole main_v1_0).slice (win0_5.rect (point0 (i 0)))).set
    rw [View.set_slice_whole, Rect.mem_set_unit]
    intro a
    match a with
    | ⟨0, _⟩ =>
      show win0_5.index (point0 (i 0)) 0 * 400 ≤ (i 0 : Nat) ∧ (i 0 : Nat) < win0_5.index (point0 (i 0)) 0 * 400 + 400
      rw [hi.1]; omega
    | ⟨1, _⟩ =>
      show win0_5.index (point0 (i 0)) 1 * 128 ≤ (i 1 : Nat) ∧ (i 1 : Nat) < win0_5.index (point0 (i 0)) 1 * 128 + 128
      rw [hi.2]; omega

/-- The second output array ends as `matrixArray`. -/
theorem final0_6 : (dat0 V c).arrAt 6 cfg0.N = matrixArray V c :=
  (dat0 V c).arrAt_eq_of_cover 6 (matrixArray V c) (fun t _ => flushed0_6 V c t) fun i => by
    have h0 : (i 0 : Nat) < 10000 := (i 0).isLt
    have h1 : (i 1 : Nat) < 10000 := (i 1).isLt
    have hi := (index0 (point0 (i 0))).2.2.1
    have hp : (point0 (i 0)).val = (i 0 : Nat) / 400 := rfl
    refine ⟨point0 (i 0), flush0_6 _, ?_⟩
    show i ∈ ((View.whole main_v1_1).slice (win0_6.rect (point0 (i 0)))).set
    rw [View.set_slice_whole, Rect.mem_set_unit]
    intro a
    match a with
    | ⟨0, _⟩ =>
      show win0_6.index (point0 (i 0)) 0 * 400 ≤ (i 0 : Nat) ∧ (i 0 : Nat) < win0_6.index (point0 (i 0)) 0 * 400 + 400
      rw [hi.1]; omega
    | ⟨1, _⟩ =>
      show win0_6.index (point0 (i 0)) 1 * 10000 ≤ (i 1 : Nat) ∧ (i 1 : Nat) < win0_6.index (point0 (i 0)) 1 * 10000 + 10000
      rw [hi.2]; omega

end Cert.Gcn

end
-- ==== Proof.Pass2Value.lean ====
module

public import proofs.«01_k».proof.Proof.Pass2Data
public import proofs.«01_k».proof.Proof.BlockValue
public import Idealize.ShloMosaic.Lib.Pipeline.Value

@[expose] public section

noncomputable section

namespace Cert.Gcn

open Cert.KernelIdeal Cert.KernelIdeal.Gen
open Idealize.ShloMosaic Idealize.ShloMosaic.TcCoe Idealize.SL.Sem
open Idealize.ShloMosaic.Pipeline (Dat)

/-! What the second pass's output array holds over the extended reals. -/

variable (V : Dev nD → Valuation τ sig (Elt Ideal)) (c : Dev nD)

/-- The matrix as the first pass copied it, as numbers; -/
def copied (r k : Fin 10000) : EReal := (V c main_v1_1 : Vec Ideal S10000x10000 .fp8e4m3) (ix2 r k)
/-- the first layer times the second weights; -/
def layered (k : Fin 10000) (l : Fin 128) : EReal := (V c main_v1_0 : Vec Ideal S10000x128 .fp8e4m3) (ix2 k l)
/-- and the second bias row. -/
def biasRow2 (l : Fin 128) : EReal := (V c main_v2 : Vec Ideal S1x128 .f32) (ix2 0 l)

/-- Which block each window of the second pass is at: the two arrays cut in rows move with the point, the others stay. -/
theorem index1 : ∀ t : Fin grid1.N,
    (win1_0.index t 0 = t.val ∧ win1_0.index t 1 = 0) ∧ (win1_3.index t 0 = t.val ∧ win1_3.index t 1 = 0)
      ∧ (win1_1.index t 0 = 0 ∧ win1_1.index t 1 = 0) ∧ (win1_2.index t 0 = 0 ∧ win1_2.index t 1 = 0) := by
  decide

/-- A row of a block of 2000 is a row of the array. -/
theorem row1_lt (t : Fin cfg1.N) (r : Fin 2000) : t.val * 2000 + r.val < 10000 := by
  have ht : t.val < 5 := Nat.lt_of_lt_of_eq t.isLt N_1
  have := r.isLt
  omega

/-- Row `r` of block `t` of 2000 rows. -/
def row1 (t : Fin cfg1.N) (r : Fin 2000) : Fin 10000 := ⟨t.val * 2000 + r.val, row1_lt t r⟩

/-- The copied matrix's block is 2000 of its rows. -/
theorem qBlock_apply (t : Fin cfg1.N) (r : Fin 2000) (k : Fin 10000) : qBlock V c t (ix2 r k) = copied V c (row1 t r) k := by
  have hi := (index1 t).1
  unfold qBlock copied
  rw [View.read_apply]
  show (V c main_v1_1 : Vec Ideal S10000x10000 .fp8e4m3) _ = _
  refine congrArg _ (idx2_ext ?_ ?_)
  · show win1_0.index t 0 * 2000 + 1 * r.val = t.val * 2000 + r.val; rw [hi.1]; omega
  · show win1_0.index t 1 * 10000 + 1 * k.val = k.val; rw [hi.2]; omega

/-- The first pass's first output is read whole. -/
theorem hBlock_apply (t : Fin cfg1.N) (k : Fin 10000) (l : Fin 128) : hBlock V c t (ix2 k l) = layered V c k l := by
  have hi := (index1 t).2.2.1
  unfold hBlock layered
  rw [View.read_apply]
  show (V c main_v1_0 : Vec Ideal S10000x128 .fp8e4m3) _ = _
  refine congrArg _ (idx2_ext ?_ ?_)
  · show win1_1.index t 0 * 10000 + 1 * k.val = k.val; rw [hi.1]; omega
  · show win1_1.index t 1 * 128 + 1 * l.val = l.val; rw [hi.2]; omega

/-- The second bias row is read whole. -/
theorem biasBlock2_apply (t : Fin cfg1.N) (l : Fin 128) : biasBlock2 V c t (ix2 0 l) = biasRow2 V c l := by
  have hi := (index1 t).2.2.2
  unfold biasBlock2 biasRow2
  rw [View.read_apply]
  show (V c main_v2 : Vec Ideal S1x128 .f32) _ = _
  refine congrArg _ (idx2_ext ?_ ?_)
  · show win1_2.index t 0 * 1 + 1 * 0 = 0; rw [hi.1]
  · show win1_2.index t 1 * 128 + 1 * l.val = l.val; rw [hi.2]; omega

/-- The output array: every row's logarithms of softmax. -/
def softmaxArray : Vec Ideal S10000x128 .f32 := fun j =>
  logSoftmax (logitRow (copied V c (j 0)) (layered V c) (biasRow2 V c)) (j 1)

/-- What a point writes back to the output array is its block of `softmaxArray`. -/
theorem flushed1_3 (t : Fin cfg1.N) : (dat1 V c).flushed 3 t = ((cfg1.win 3).blk t).view.read (Elt Ideal) (softmaxArray V c) := by
  have hi := (index1 t).2.1
  show (k1_pay1 (qBlock V c t) (hBlock V c t) (biasBlock2 V c t) : Vec Ideal S2000x128 .f32) = _
  funext j
  rw [View.read_apply]
  show _ = softmaxArray V c _
  obtain ⟨r, l, rfl⟩ : ∃ (r : Fin 2000) (l : Fin 128), j = ix2 r l := ⟨j 0, j 1, eq_ix2 j⟩
  rw [softmax_apply]
  simp only [qBlock_apply, hBlock_apply, biasBlock2_apply]
  refine Eq.trans (b := softmaxArray V c (ix2 (row1 t r) l)) rfl (congrArg (softmaxArray V c) (idx2_ext ?_ ?_))
  · show t.val * 2000 + r.val = win1_3.index t 0 * 2000 + 1 * r.val; rw [hi.1]; omega
  · show l.val = win1_3.index t 1 * 128 + 1 * l.val; rw [hi.2]; omega

/-- The point of the second pass whose block has row `r`. -/
def point1 (r : Fin 10000) : Fin cfg1.N := ⟨r.val / 2000, by
  show r.val / 2000 < grid1.N
  rw [N_1]
  have := r.isLt
  omega⟩

/-- The output array ends as `softmaxArray`. -/
theorem final1_3 : (dat1 V c).arrAt 3 cfg1.N = softmaxArray V c :=
  (dat1 V c).arrAt_eq_of_cover 3 (softmaxArray V c) (fun t _ => flushed1_3 V c t) fun i => by
    have h0 : (i 0 : Nat) < 10000 := (i 0).isLt
    have h1 : (i 1 : Nat) < 128 := (i 1).isLt
    have hi := (index1 (point1 (i 0))).2.1
    have hp : (point1 (i 0)).val = (i 0 : Nat) / 2000 := rfl
    refine ⟨point1 (i 0), flush1_3 _, ?_⟩
    show i ∈ ((View.whole main_v3).slice (win1_3.rect (point1 (i 0)))).set
    rw [View.set_slice_whole, Rect.mem_set_unit]
    intro a
    match a with
    | ⟨0, _⟩ =>
      show win1_3.index (point1 (i 0)) 0 * 2000 ≤ (i 0 : Nat) ∧ (i 0 : Nat) < win1_3.index (point1 (i 0)) 0 * 2000 + 2000
      rw [hi.1]; omega
    | ⟨1, _⟩ =>
      show win1_3.index (point1 (i 0)) 1 * 128 ≤ (i 1 : Nat) ∧ (i 1 : Nat) < win1_3.index (point1 (i 0)) 1 * 128 + 128
      rw [hi.2]; omega

end Cert.Gcn

end
-- ==== Proof.KernelValue.lean ====
module

public import proofs.«01_k».proof.Proof.Run
public import proofs.«01_k».proof.Proof.Pass1Value
public import proofs.«01_k».proof.Proof.Pass2Value

@[expose] public section

noncomputable section

namespace Cert.Gcn

open Cert.KernelIdeal Cert.KernelIdeal.Gen
open Idealize.ShloMosaic Idealize.ShloMosaic.TcCoe Idealize.SL.Sem

/-! The kernel's result over the extended reals, as the network of its arguments at launch. -/

variable (m : (ℓ : Loc nD τ sig) → Buf (Elt Ideal) ℓ) (c : Dev nD)

/-- The first bias row holds the first bias. -/
theorem biasRow1_value (h : Fin 16) :
    biasRow1 (mem1 m) c h = (m ((c : Thread nD τ).loc main_arg3) : Vec Ideal S16 .f32) (ix1 h) := by
  show (shapeCast S1x16 (m ((c : Thread nD τ).loc main_arg3) : Vec Ideal S16 .f32) shapeCasts_S16_S1x16 : Vec Ideal S1x16 .f32) (ix2 0 h) = _
  pointwise

/-- The second bias row holds the second bias. -/
theorem biasRow2_value (l : Fin 128) :
    biasRow2 (mem3 m) c l = (m ((c : Thread nD τ).loc main_arg5) : Vec Ideal S128 .f32) (ix1 l) := by
  have hb : mem2 m c main_arg5 = m ((c : Thread nD τ).loc main_arg5) :=
    (mem2_of m c main_arg5 (by decide)).trans (mem1_of m c main_arg5 (by decide))
  show (shapeCast S1x128 (mem2 m c main_arg5 : Vec Ideal S128 .f32) shapeCasts_S128_S1x128 : Vec Ideal S1x128 .f32) (ix2 0 l) = _
  rw [hb]
  pointwise

/-- The second pass finds the first layer times the second weights in its second array, -/
theorem layered_value : layered (mem3 m) c
    = fun k => layerRow (matrix (mem1 m) c k) (projection (features (mem1 m) c) (weights1 (mem1 m) c)) (biasRow1 (mem1 m) c)
        (weights2 (mem1 m) c) := by
  have h : mem3 m c main_v1_0 = layerArray (mem1 m) c :=
    (mem3_of m c main_v1_0 (by decide)).trans
      ((Pipeline.afterRegion_arr (dat0 (mem1 m) c) (mem1 m c) launch0.win.arr_inj 5).trans (final0_5 (mem1 m) c))
  funext k l
  unfold layered
  rw [h]
  rfl

/-- and the matrix in its first. -/
theorem copied_value : copied (mem3 m) c = matrix (mem1 m) c := by
  have h : mem3 m c main_v1_1 = matrixArray (mem1 m) c :=
    (mem3_of m c main_v1_1 (by decide)).trans
      ((Pipeline.afterRegion_arr (dat0 (mem1 m) c) (mem1 m c) launch0.win.arr_inj 6).trans (final0_6 (mem1 m) c))
  funext r k
  unfold copied
  rw [h]
  rfl

/-- The kernel's result is the network of its arguments. -/
theorem result_apply (r : Fin 10000) (l : Fin 128) :
    ((dat1 (mem3 m) c).arrAt 3 cfg1.N : Vec Ideal S10000x128 .f32) (ix2 r l)
      = network (fun k f => (m ((c : Thread nD τ).loc main_arg0) : Vec Ideal S10000x128 .f32) (ix2 k f))
          (fun r k => (m ((c : Thread nD τ).loc main_arg1) : Vec Ideal S10000x10000 .f32) (ix2 r k))
          (fun f h => (m ((c : Thread nD τ).loc main_arg2) : Vec Ideal S128x16 .f32) (ix2 f h))
          (fun h => (m ((c : Thread nD τ).loc main_arg3) : Vec Ideal S16 .f32) (ix1 h))
          (fun h l => (m ((c : Thread nD τ).loc main_arg4) : Vec Ideal S16x128 .f32) (ix2 h l))
          (fun l => (m ((c : Thread nD τ).loc main_arg5) : Vec Ideal S128 .f32) (ix1 l)) r l := by
  have h0 : mem1 m c main_arg0 = m ((c : Thread nD τ).loc main_arg0) := mem1_of m c main_arg0 (by decide)
  have h1 : mem1 m c main_arg1 = m ((c : Thread nD τ).loc main_arg1) := mem1_of m c main_arg1 (by decide)
  have h2 : mem1 m c main_arg2 = m ((c : Thread nD τ).loc main_arg2) := mem1_of m c main_arg2 (by decide)
  have h4 : mem1 m c main_arg4 = m ((c : Thread nD τ).loc main_arg4) := mem1_of m c main_arg4 (by decide)
  rw [final1_3]
  show logSoftmax (logitRow (copied (mem3 m) c r) (layered (mem3 m) c) (biasRow2 (mem3 m) c)) l = _
  rw [copied_value, layered_value, funext (biasRow1_value m c), funext (biasRow2_value m c)]
  unfold network
  rw [← h0, ← h1, ← h2, ← h4]
  rfl

end Cert.Gcn

end
-- ==== Proof.ReferenceValue.lean ====
module

public import proofs.«01_k».proof.Proof.Gen.ReferenceIdeal.Run
public import Idealize.ShloMosaic.Lib.Quiescent
public import proofs.«01_k».proof.Proof.Network

@[expose] public section

noncomputable section

namespace Cert.Gcn.Reference

open Cert.ReferenceIdeal Cert.ReferenceIdeal.Gen Idealize.ShloMosaic Idealize.SL.Sem

/-! What the reference computes over the extended reals: its result is cut into the network's stages, and each stage is read at an
    index. -/

variable {F : FTy → Type} [FloatOps F]

/-- The stage that multiplies the features by the first weights. -/
def projected (x : FVec F S10000x128 .f32) (w : FVec F S128x16 .f32) : FVec F S10000x16 .f32 :=
  Host.dotGeneral dot_S10000x128_S128x16_S10000x16_1_0_0_1_n_n none x w

/-- The stage from the projected features to the first layer's output. -/
def hidden (a : FVec F S10000x10000 .f32) (y : FVec F S10000x16 .f32) (b : FVec F S16 .f32) : FVec F S10000x16 .f32 :=
  maximumf
    (addf (Host.dotGeneral dot_S10000x10000_S10000x16_S10000x16_1_0_0_1_n_n none a y)
      (broadcastInDim S10000x16 ![0, 1] bcast_S1x16_S10000x16_0_1 (broadcastInDim S1x16 ![1] bcast_S16_S1x16_1 b)))
    (broadcastInDim S10000x16 ![] bcast_S_S10000x16 (constant S_ .f32 0x00000000#32))

/-- The stage that multiplies the first layer's output by the second weights. -/
def layer (d : FVec F S10000x16 .f32) (w : FVec F S16x128 .f32) : FVec F S10000x128 .f32 :=
  Host.dotGeneral dot_S10000x16_S16x128_S10000x128_1_0_0_1_n_n none d w

/-- The stage up to the softmax. -/
def logits (a : FVec F S10000x10000 .f32) (u : FVec F S10000x128 .f32) (b : FVec F S128 .f32) : FVec F S10000x128 .f32 :=
  addf (Host.dotGeneral dot_S10000x10000_S10000x128_S10000x128_1_0_0_1_n_n none a u)
    (broadcastInDim S10000x128 ![0, 1] bcast_S1x128_S10000x128_0_1 (broadcastInDim S1x128 ![1] bcast_S128_S1x128_1 b))

/-- The stage that subtracts each row's maximum. -/
def shifted (z : FVec F S10000x128 .f32) : FVec F S10000x128 .f32 :=
  subf z (broadcastInDim S10000x128 ![0, 1] bcast_S10000x1_S10000x128_0_1 (broadcastInDim S10000x1 ![0] bcast_S10000_S10000x1_0
    (maximumf (broadcastInDim S10000 ![] bcast_S_S10000 (constant S_ .f32 0xFF800000#32))
      (Host.reduce FloatOps.maximumf z (constant S_ .f32 0xFF800000#32) reducesTo_S10000x128_S10000_d1 h_S_))))

/-- The stage that subtracts the logarithm of each row's sum of exponentials. -/
def normalised (s : FVec F S10000x128 .f32) : FVec F S10000x128 .f32 :=
  subf s (broadcastInDim S10000x128 ![0, 1] bcast_S10000x1_S10000x128_0_1 (Host.log (broadcastInDim S10000x1 ![0] bcast_S10000_S10000x1_0
    (Host.reduceAdd (Host.exp s) (constant S_ .f32 0x00000000#32) reducesTo_S10000x128_S10000_d1 h_S_))))

/-- The reference's result is its stages, one after the other. -/
theorem result_stages (m : (ℓ : Loc nD τ sig) → Buf (Elt F) ℓ) (c : Dev nD) :
    Value.res_out0 m c
      = normalised (shifted (logits (m ((c.tc : Thread nD τ).loc main_arg1))
          (layer (hidden (m ((c.tc : Thread nD τ).loc main_arg1))
            (projected (m ((c.tc : Thread nD τ).loc main_arg0)) (m ((c.tc : Thread nD τ).loc main_arg2)))
            (m ((c.tc : Thread nD τ).loc main_arg3))) (m ((c.tc : Thread nD τ).loc main_arg4)))
          (m ((c.tc : Thread nD τ).loc main_arg5)))) := by
  unfold Value.res_out0 Value.res_main_v12 normalised shifted logits layer hidden projected
  with_reducible rfl

variable (m : (ℓ : Loc nD τ sig) → Buf (Elt Ideal) ℓ) (c : Dev nD)

/-- The projected features at an index. -/
theorem projected_apply (x : FVec Ideal S10000x128 .f32) (w : FVec Ideal S128x16 .f32) (k : Fin 10000) (h : Fin 16) :
    projected x w (ix2 k h) = projection (fun k f => x (ix2 k f)) (fun f h => w (ix2 f h)) k h := by
  unfold projection
  pointwise [projected]

/-- The first layer times the second weights at an index. -/
theorem layer_apply (a : FVec Ideal S10000x10000 .f32) (y : FVec Ideal S10000x16 .f32) (b : FVec Ideal S16 .f32)
    (w : FVec Ideal S16x128 .f32) (r : Fin 10000) (l : Fin 128) :
    layer (hidden a y b) w (ix2 r l)
      = layerRow (fun k => a (ix2 r k)) (fun k h => y (ix2 k h)) (fun h => b (ix1 h)) (fun h l => w (ix2 h l)) l := by
  unfold layerRow
  pointwise [layer, hidden]

/-- The entries before the softmax at an index. -/
theorem logits_apply (a : FVec Ideal S10000x10000 .f32) (u : FVec Ideal S10000x128 .f32) (b : FVec Ideal S128 .f32)
    (r : Fin 10000) (l : Fin 128) :
    logits a u b (ix2 r l) = logitRow (fun k => a (ix2 r k)) (fun k l => u (ix2 k l)) (fun l => b (ix1 l)) l := by
  unfold logitRow
  pointwise [logits]

/-- The reduction by maximum is each row's maximum. -/
theorem reduce_apply (z : FVec Ideal S10000x128 .f32) (r : Fin 10000) :
    Host.reduce FloatOps.maximumf z (constant S_ .f32 0xFF800000#32) reducesTo_S10000x128_S10000_d1 h_S_ (ix1 r)
      = rowMax fun l => z (ix2 r l) := by
  unfold rowMax lowest
  pointwise

/-- The maximum of minus infinity and an array. -/
theorem max_lowest_apply (y : FVec Ideal S10000 .f32) (r : Fin 10000) :
    maximumf (broadcastInDim S10000 ![] bcast_S_S10000 (constant S_ .f32 0xFF800000#32)) y (ix1 r) = max lowest (y (ix1 r)) := by
  unfold lowest
  pointwise

/-- An array of one value per row, repeated along the rows. -/
theorem repeated_apply (y : FVec Ideal S10000 .f32) (r : Fin 10000) (l : Fin 128) :
    broadcastInDim S10000x128 ![0, 1] bcast_S10000x1_S10000x128_0_1 (broadcastInDim S10000x1 ![0] bcast_S10000_S10000x1_0 y) (ix2 r l)
      = y (ix1 r) := by
  pointwise

/-- The entries less their row's maximum at an index. -/
theorem shifted_apply (z : FVec Ideal S10000x128 .f32) (r : Fin 10000) (l : Fin 128) :
    shifted z (ix2 r l) = z (ix2 r l) - rowMax fun l => z (ix2 r l) := by
  unfold shifted
  rw [subf_apply, repeated_apply, max_lowest_apply, reduce_apply, max_lowest_rowMax, Ideal.subf_def]

/-- The last stage at an index. -/
theorem normalised_apply (s : FVec Ideal S10000x128 .f32) (r : Fin 10000) (l : Fin 128) :
    normalised s (ix2 r l) = s (ix2 r l) - Ideal.log (∑ k, Ideal.exp (s (ix2 r k))) := by
  pointwise [normalised]

/-- The reference's result is the network of its arguments. -/
theorem result_apply (r : Fin 10000) (l : Fin 128) :
    (Value.res_out0 m c : FVec Ideal S10000x128 .f32) (ix2 r l)
      = network (fun k f => (m ((c.tc : Thread nD τ).loc main_arg0) : FVec Ideal S10000x128 .f32) (ix2 k f))
          (fun r k => (m ((c.tc : Thread nD τ).loc main_arg1) : FVec Ideal S10000x10000 .f32) (ix2 r k))
          (fun f h => (m ((c.tc : Thread nD τ).loc main_arg2) : FVec Ideal S128x16 .f32) (ix2 f h))
          (fun h => (m ((c.tc : Thread nD τ).loc main_arg3) : FVec Ideal S16 .f32) (ix1 h))
          (fun h l => (m ((c.tc : Thread nD τ).loc main_arg4) : FVec Ideal S16x128 .f32) (ix2 h l))
          (fun l => (m ((c.tc : Thread nD τ).loc main_arg5) : FVec Ideal S128 .f32) (ix1 l)) r l := by
  rw [result_stages, normalised_apply]
  unfold network logSoftmax
  simp only [shifted_apply, logits_apply, layer_apply, projected_apply]

/-- The reference's program ends with its arguments unchanged and every semaphore counter at zero: it has no semaphore. -/
theorem quiescent (ρ : Dev nD → PrngReg) :
    θ_run defs (onTc (τ := τ) (main (F := Ideal))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) ∧ r.2.sem = fun _ => 0 :=
  (θ_run _ _ _).mono (fun r h => ⟨fun c => (h c).2, sem_eq_zero_of_no_sems rfl r.2⟩) (Value.run m ρ)

end Cert.Gcn.Reference

end
-- ==== Proof.Equation.lean ====
module

public import proofs.«01_k».proof.Proof.KernelValue
public import proofs.«01_k».proof.Proof.ReferenceValue

@[expose] public section

noncomputable section

namespace Cert.Gcn

open Idealize.ShloMosaic Idealize.SL.Sem

/-- From memories with the same six arguments, the reference's result and the kernel's are the same array over the extended reals:
    both are the network of those arguments. -/
theorem results_eq
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) :
    (Cert.ReferenceIdeal.Value.res_out0 m' c : Vec Ideal ⟨2, ![10000, 128]⟩ .f32)
      = (dat1 (mem3 m) c).arrAt 3 Cert.KernelIdeal.cfg1.N := by
  funext j
  obtain ⟨r, l, rfl⟩ : ∃ (r : Fin 10000) (l : Fin 128), j = ix2 r l := ⟨j 0, j 1, eq_ix2 j⟩
  refine (Reference.result_apply m' c r l).trans (Eq.trans ?_ (result_apply m c r l).symm)
  rw [h0, h1, h2, h3, h4, h5]

end Cert.Gcn

end
-- ==== Proof.SameProgram.lean ====
module

public import proofs.«01_k».proof.Proof.Run
public import proofs.«01_k».proof.Proof.Gen.Kernel.Regions

@[expose] public section

noncomputable section

namespace Cert.Gcn

open Idealize.ShloMosaic Idealize.ShloMosaic.TcCoe Idealize.SL.Sem

variable {F : FTy → Type} [FloatOps F]

/-! The compiled program and its idealization are one text: nothing in it was rewritten. What is proved of the one at any float
    values is therefore true of the other. -/

/-- The two programs' kernel bodies are the same. -/
theorem bodies_eq : Cert.Kernel.defs₀ (F := F) = Cert.KernelIdeal.defs₀ (F := F) := by
  unfold Cert.Kernel.defs₀ Cert.KernelIdeal.defs₀
  congr 1
  funext l a
  match l, a with
  | 0, (t, s) => rfl
  | 1, (t, s) => rfl

/-- The two programs' pipelines are the same. -/
theorem pipelines_eq : Cert.Kernel.pcfgs (F := F) = Cert.KernelIdeal.pcfgs (F := F) := by
  funext p; match p with
  | 0 => rfl
  | 1 => rfl

/-- Pipelines over equal configurations and equal bodies are equal definitions. -/
theorem definitions_congr (pc pc' : Fin 2 → Pipeline.PCfg Cert.KernelIdeal.sig Cert.KernelIdeal.Λ₀ (Elt F))
    (d d' : Defs Cert.KernelIdeal.nD Cert.KernelIdeal.τ Cert.KernelIdeal.sig (Elt F) Cert.KernelIdeal.Λ₀) (hp : pc = pc') (hd : d = d') :
    HEq (Pipeline.defs pc d) (Pipeline.defs pc' d') := by
  subst hp hd; rfl

/-- The two programs call the same definitions. -/
theorem definitions_eq : Cert.Kernel.defs (F := F) = Cert.KernelIdeal.defs (F := F) :=
  eq_of_heq (definitions_congr _ _ _ _ pipelines_eq bodies_eq)

/-- The compiled program runs to its end without fault, leaves its arguments as launched and every counter at zero. -/
theorem kernel_frame (m : (ℓ : Loc Cert.Kernel.nD Cert.Kernel.τ Cert.Kernel.sig) → Buf (Elt F) ℓ) (g : Dev Cert.Kernel.nD → PrngReg) :
    θ_run (Cert.Kernel.defs (F := F)) (onTc (τ := Cert.Kernel.τ) (Cert.Kernel.main (F := F))) ⟨m, fun _ => 0, g⟩ (fun r =>
      (∀ c : Dev Cert.Kernel.nD,
        r.2.mem ((c.tc : Thread Cert.Kernel.nD Cert.Kernel.τ).loc Cert.Kernel.main_arg0) = m ((c.tc : Thread Cert.Kernel.nD Cert.Kernel.τ).loc Cert.Kernel.main_arg0)
        ∧ r.2.mem ((c.tc : Thread Cert.Kernel.nD Cert.Kernel.τ).loc Cert.Kernel.main_arg1) = m ((c.tc : Thread Cert.Kernel.nD Cert.Kernel.τ).loc Cert.Kernel.main_arg1)
        ∧ r.2.mem ((c.tc : Thread Cert.Kernel.nD Cert.Kernel.τ).loc Cert.Kernel.main_arg2) = m ((c.tc : Thread Cert.Kernel.nD Cert.Kernel.τ).loc Cert.Kernel.main_arg2)
        ∧ r.2.mem ((c.tc : Thread Cert.Kernel.nD Cert.Kernel.τ).loc Cert.Kernel.main_arg3) = m ((c.tc : Thread Cert.Kernel.nD Cert.Kernel.τ).loc Cert.Kernel.main_arg3)
        ∧ r.2.mem ((c.tc : Thread Cert.Kernel.nD Cert.Kernel.τ).loc Cert.Kernel.main_arg4) = m ((c.tc : Thread Cert.Kernel.nD Cert.Kernel.τ).loc Cert.Kernel.main_arg4)
        ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0) := by
  rw [definitions_eq]
  exact (θ_run (Cert.KernelIdeal.defs (F := F)) _ _).mono (fun r h => ⟨fun c => (h.1 c).2, h.2⟩) (run m g)

end Cert.Gcn

end
-- ==== Proof.lean ====
module

public import proofs.«01_k».proof.Defs
public import proofs.«01_k».proof.Proof.Equation
public import proofs.«01_k».proof.Proof.SameProgram

@[expose] public section

noncomputable section

namespace Cert.Proof

open Idealize.ShloMosaic Idealize.SL.Sem

/-- All five claims: the three programs end with their arguments unchanged and every semaphore counter at zero, the kernel's program and
    its form over the extended reals are the same text, and over the extended reals the kernel's result is the reference's. -/
theorem claim : Cert.Claim :=
  ⟨Cert.Kernel.Gen.facts, Cert.KernelIdeal.Gen.facts, Cert.ReferenceIdeal.Gen.facts,
    fun m g _ => Cert.Gcn.kernel_frame (F := Bits) m g,
    fun m g _ => (θ_run _ _ _).mono (fun r h => ⟨fun c => (h.1 c).2, h.2⟩) (Cert.Gcn.run (F := Ideal) m g),
    fun m g _ => Cert.Gcn.Reference.quiescent m g,
    trivial,
    fun m g m' g' _ hargs =>
      ⟨fun c => (Cert.Gcn.dat1 (Cert.Gcn.mem3 m) c).arrAt 3 Cert.KernelIdeal.cfg1.N,
        (θ_run _ _ _).mono (fun r h => h.1) (Cert.Gcn.run (F := Ideal) m g),
        (θ_run _ _ _).mono (fun r h c => ⟨(h c).1.trans (by
            obtain ⟨h0, h1, h2, h3, h4, h5⟩ := hargs c
            exact Cert.Gcn.results_eq m m' c h0 h1 h2 h3 h4 h5), (h c).2⟩)
          (Cert.ReferenceIdeal.Value.run m' g')⟩⟩

end Cert.Proof

end
